-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000x64 : Shape := ⟨2, ![1000000, 64]⟩
abbrev S16384x1 : Shape := ⟨2, ![16384, 1]⟩
abbrev S16384x64 : Shape := ⟨2, ![16384, 64]⟩
abbrev S_ : Shape := ⟨0, ![]⟩

class Facts : Prop where
  bcast_S_S16384x1 : S_.BroadcastsInDim S16384x1 (![] : Fin 0 → Fin S16384x1.rank)

variable [Facts]

def fn {F : FTy → Type} [FloatOps F] (main_arg0 : FVec F S1000000x64 .f32) (main_arg1 : IVec S16384x1 32) (main_arg2 : FVec F S16384x64 .f32) : IVec S16384x1 1 :=
  let main_c : IVec S_ 32 := constantI S_ 32 0#32
  let main_v0 : IVec S16384x1 32 := broadcastInDim S16384x1 ![] bcast_S_S16384x1 main_c
  let main_v1 : IVec S16384x1 1 := cmpi .sge main_arg1 main_v0
  let main_c_0 : IVec S_ 32 := constantI S_ 32 1000000#32
  let main_v2 : IVec S16384x1 32 := broadcastInDim S16384x1 ![] bcast_S_S16384x1 main_c_0
  let main_v3 : IVec S16384x1 1 := cmpi .slt main_arg1 main_v2
  let main_v4 : IVec S16384x1 1 := andi main_v1 main_v3
  main_v4
-- ==== Kernel.lean ====
abbrev S1000000x64 : Shape := ⟨2, ![1000000, 64]⟩
abbrev S16384x1 : Shape := ⟨2, ![16384, 1]⟩
abbrev S16384x64 : Shape := ⟨2, ![16384, 64]⟩
abbrev S16384 : Shape := ⟨1, ![16384]⟩
abbrev S64x1000000 : Shape := ⟨2, ![64, 1000000]⟩
abbrev S128x128x64 : Shape := ⟨3, ![128, 128, 64]⟩
abbrev S128x64x128 : Shape := ⟨3, ![128, 64, 128]⟩
abbrev S64x32768 : Shape := ⟨2, ![64, 32768]⟩
abbrev S256x64x128 : Shape := ⟨3, ![256, 64, 128]⟩
abbrev S32x1025 : Shape := ⟨2, ![32, 1025]⟩
abbrev S32 : Shape := ⟨1, ![32]⟩
abbrev S16385 : Shape := ⟨1, ![16385]⟩
abbrev S1 : Shape := ⟨1, ![1]⟩
abbrev S1x1 : Shape := ⟨2, ![1, 1]⟩
abbrev S64x128 : Shape := ⟨2, ![64, 128]⟩
abbrev S1x64x128 : Shape := ⟨3, ![1, 64, 128]⟩
abbrev S64x1 : Shape := ⟨2, ![64, 1]⟩

abbrev nBuf : Space → Nat
  | .hbm => 8
  | .vmem => 6
  | .smem => 6
  | _ => 0

abbrev bufTy : (tb : Table) → Fin (tcTables nBuf tb) → BufTy
  | .hbm, ⟨0, _⟩ => ⟨S1000000x64, .f32⟩
  | .hbm, ⟨1, _⟩ => ⟨S16384x1, .i32⟩
  | .hbm, ⟨2, _⟩ => ⟨S16384x64, .f32⟩
  | .hbm, ⟨3, _⟩ => ⟨S64x1000000, .f32⟩
  | .hbm, ⟨4, _⟩ => ⟨S128x128x64, .f32⟩
  | .hbm, ⟨5, _⟩ => ⟨S128x64x128, .f32⟩
  | .hbm, ⟨6, _⟩ => ⟨S64x1000000, .f32⟩
  | .hbm, ⟨7, _⟩ => ⟨S1000000x64, .f32⟩
  | .local _ .vmem, ⟨0, _⟩ => ⟨S64x32768, .f32⟩
  | .local _ .vmem, ⟨1, _⟩ => ⟨S64x32768, .f32⟩
  | .local _ .vmem, ⟨2, _⟩ => ⟨S128x64x128, .f32⟩
  | .local _ .vmem, ⟨3, _⟩ => ⟨S64x32768, .f32⟩
  | .local _ .vmem, ⟨4, _⟩ => ⟨S64x32768, .f32⟩
  | .local _ .vmem, ⟨5, _⟩ => ⟨S256x64x128, .f32⟩
  | .local _ .smem, ⟨0, _⟩ => ⟨S16384, .i32⟩
  | .local _ .smem, ⟨1, _⟩ => ⟨S32x1025, .i32⟩
  | .local _ .smem, ⟨2, _⟩ => ⟨S32, .i32⟩
  | .local _ .smem, ⟨3, _⟩ => ⟨S16385, .i32⟩
  | .local _ .smem, ⟨4, _⟩ => ⟨S16385, .i32⟩
  | .local _ .smem, ⟨5, _⟩ => ⟨S1, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩
abbrev cc0_scratch4 : Ref sig .tc := ⟨.smem, 4, rfl⟩
abbrev cc0_scratch5 : Ref sig .tc := ⟨.smem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![31], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2060 : BitVec 32 := 0#32
  let c32_i32 : BitVec 32 := 32#32
  let v2064 : BitVec 32 := Scalar.addi c0_i32_2060 c32_i32
  let c1_i32_2061 : BitVec 32 := 1#32
  ⟨c0_i32_2060, v2064, c1_i32_2061⟩
def k0_off1 (k0_t1 : Fin k0_t1_loop.trips) : Fin 1 → Nat :=
  let c0_i32_2060 : BitVec 32 := 0#32
  let c1_i32_2061 : BitVec 32 := 1#32
  let arg11 : BitVec 32 := Scf.iv c0_i32_2060 c1_i32_2061 k0_t1
  let v2067 : Index := Scalar.indexCast arg11
  ![v2067.toNat]
@[reducible] def k0_t2_loop : Scf.Loop 32 :=
  let c0_i32_2065 : BitVec 32 := 0#32
  let c16384_i32 : BitVec 32 := 16384#32
  let v2066 : BitVec 32 := Scalar.addi c0_i32_2065 c16384_i32
  let c1_i32_2066 : BitVec 32 := 1#32
  ⟨c0_i32_2065, v2066, c1_i32_2066⟩
def k0_off2 (k0_t2 : Fin k0_t2_loop.trips) : Fin 1 → Nat :=
  let c0_i32_2065 : BitVec 32 := 0#32
  let c1_i32_2066 : BitVec 32 := 1#32
  let arg11 : BitVec 32 := Scf.iv c0_i32_2065 c1_i32_2066 k0_t2
  let v2067 : Index := Scalar.indexCast arg11
  ![v2067.toNat]
def k0_off3 (v2068 : BitVec 32) : Fin 1 → Nat :=
  let c15_i32 : BitVec 32 := 15#32
  let v2069 : BitVec 32 := Scalar.shrsi v2068 c15_i32
  let v2070 : Index := Scalar.indexCast v2069
  ![v2070.toNat]

def k0_off4 (v2068 : BitVec 32) (v2071 : BitVec 32) : Fin 2 → Nat :=
  let c15_i32 : BitVec 32 := 15#32
  let v2069 : BitVec 32 := Scalar.shrsi v2068 c15_i32
  let v2077 : Index := Scalar.indexCast v2069
  let c1024_i32_2068 : BitVec 32 := 1024#32
  let v2072 : BitVec 32 := Scalar.minsi v2071 c1024_i32_2068
  let v2078 : Index := Scalar.indexCast v2072
  ![v2077.toNat, v2078.toNat]

def k0_chk2 (i : grid0.Coords) (v2068 : BitVec 32) (v2071 : BitVec 32) : Prop :=
  (∀ (k0_h1 : k0_cond1 i = 1#1), ∀ a, (k0_off4 v2068 v2071) a + S1x1.size a ≤ S32x1025.size a)
theorem k0_off4_inb : ∀ (i : grid0.Coords) (v2068 : BitVec 32) (v2071 : BitVec 32) (k0_hw2 : k0_chk2 i v2068 v2071), ∀ (k0_h1 : k0_cond1 i = 1#1), ∀ a, (k0_off4 v2068 v2071) a + S1x1.size a ≤ S32x1025.size a := fun i v2068 v2071 k0_hw2 k0_h1 => k0_hw2 k0_h1

def k0_off5 (v2071 : BitVec 32) (v2080 : BitVec 32) : Fin 1 → Nat :=
  let c1024_i32_2071 : BitVec 32 := 1024#32
  let v2081 : BitVec 1 := Scalar.cmpi .sge v2071 c1024_i32_2071
  let c16384_i32_2072 : BitVec 32 := 16384#32
  let v2082 : BitVec 32 := Scalar.select v2081 v2080 c16384_i32_2072
  let v2083 : Index := Scalar.indexCast v2082
  ![v2083.toNat]

def k0_chk3 (i : grid0.Coords) (v2071 : BitVec 32) (v2080 : BitVec 32) : Prop :=
  (∀ (k0_h1 : k0_cond1 i = 1#1), ∀ a, (k0_off5 v2071 v2080) a + S1.size a ≤ S16385.size a)
theorem k0_off5_inb : ∀ (i : grid0.Coords) (v2071 : BitVec 32) (v2080 : BitVec 32) (k0_hw3 : k0_chk3 i v2071 v2080), ∀ (k0_h1 : k0_cond1 i = 1#1), ∀ a, (k0_off5 v2071 v2080) a + S1.size a ≤ S16385.size a := fun i v2071 v2080 k0_hw3 k0_h1 => k0_hw3 k0_h1

def k0_off6 (v2068 : BitVec 32) : Fin 1 → Nat :=
  let c15_i32 : BitVec 32 := 15#32
  let v2069 : BitVec 32 := Scalar.shrsi v2068 c15_i32
  let v2091 : Index := Scalar.indexCast v2069
  ![v2091.toNat]

def k0_chk1 (i : grid0.Coords) (v2068 : BitVec 32) : Prop :=
  (∀ (k0_h1 : k0_cond1 i = 1#1), ∀ a, (k0_off3 v2068) a + S1.size a ≤ S32.size a) ∧
  (∀ (k0_h1 : k0_cond1 i = 1#1), ∀ a, (k0_off6 v2068) a + S1.size a ≤ S32.size a)
theorem k0_off3_inb : ∀ (i : grid0.Coords) (v2068 : BitVec 32) (k0_hw1 : k0_chk1 i v2068), ∀ (k0_h1 : k0_cond1 i = 1#1), ∀ a, (k0_off3 v2068) a + S1.size a ≤ S32.size a := fun i v2068 k0_hw1 k0_h1 => k0_hw1.1 k0_h1
theorem k0_off6_inb : ∀ (i : grid0.Coords) (v2068 : BitVec 32) (k0_hw1 : k0_chk1 i v2068), ∀ (k0_h1 : k0_cond1 i = 1#1), ∀ a, (k0_off6 v2068) a + S1.size a ≤ S32.size a := fun i v2068 k0_hw1 k0_h1 => k0_hw1.2 k0_h1

def k0_off7 (i : grid0.Coords) : Fin 1 → Nat :=
  let arg0 : BitVec 32 := BitVec.ofNat 32 (i 0).val
  let v1284 : Index := Scalar.indexCast arg0
  ![v1284.toNat]
@[reducible] def k0_t3_loop : Scf.Loop 32 :=
  let c0_i32_771 : BitVec 32 := 0#32
  let c1024_i32_772 : BitVec 32 := 1024#32
  let v1287 : BitVec 32 := Scalar.addi c0_i32_771 c1024_i32_772
  let c1_i32 : BitVec 32 := 1#32
  ⟨c0_i32_771, v1287, c1_i32⟩
def k0_off8 (i : grid0.Coords) (k0_t3 : Fin k0_t3_loop.trips) : Fin 2 → Nat :=
  let arg0 : BitVec 32 := BitVec.ofNat 32 (i 0).val
  let v2066 : Index := Scalar.indexCast arg0
  let c0_i32_771 : BitVec 32 := 0#32
  let c1_i32 : BitVec 32 := 1#32
  let arg11 : BitVec 32 := Scf.iv c0_i32_771 c1_i32 k0_t3
  let c1024_i32_2060 : BitVec 32 := 1024#32
  let v2065 : BitVec 32 := Scalar.minsi arg11 c1024_i32_2060
  let v2067 : Index := Scalar.indexCast v2065
  ![v2066.toNat, v2067.toNat]
def k0_off9 (v1285 : BitVec 32) (k0_t3 : Fin k0_t3_loop.trips) (v2068 : BitVec 32) : Fin 3 → Nat :=
  let c0_i32_771 : BitVec 32 := 0#32
  let c1_i32 : BitVec 32 := 1#32
  let arg11 : BitVec 32 := Scf.iv c0_i32_771 c1_i32 k0_t3
  let c1024_i32 : BitVec 32 := 1024#32
  let v1286 : BitVec 32 := Scalar.minsi v1285 c1024_i32
  let v2064 : BitVec 1 := Scalar.cmpi .slt arg11 v1286
  let c0_i32_2061 : BitVec 32 := 0#32
  let v2069 : BitVec 32 := Scalar.select v2064 v2068 c0_i32_2061
  let c16383_i32 : BitVec 32 := 16383#32
  let v2070 : BitVec 32 := Scalar.andi v2069 c16383_i32
  let c7_i32_2062 : BitVec 32 := 7#32
  let v2075 : BitVec 32 := Scalar.shrsi v2070 c7_i32_2062
  let v2076 : Index := Scalar.indexCast v2075
  let c0_2063 : Index := 0#32
  let c0_2064 : Index := 0#32
  ![v2076.toNat, 0, 0]

def k0_off10 (v1285 : BitVec 32) (k0_t3 : Fin k0_t3_loop.trips) (v2068 : BitVec 32) : Fin 3 → Nat :=
  let c0_i32_771 : BitVec 32 := 0#32
  let c1_i32 : BitVec 32 := 1#32
  let arg11 : BitVec 32 := Scf.iv c0_i32_771 c1_i32 k0_t3
  let c1024_i32 : BitVec 32 := 1024#32
  let v1286 : BitVec 32 := Scalar.minsi v1285 c1024_i32
  let v2064 : BitVec 1 := Scalar.cmpi .slt arg11 v1286
  let c0_i32_2061 : BitVec 32 := 0#32
  let v2069 : BitVec 32 := Scalar.select v2064 v2068 c0_i32_2061
  let c14_i32 : BitVec 32 := 14#32
  let v2071 : BitVec 32 := Scalar.shrsi v2069 c14_i32
  let c7_i32 : BitVec 32 := 7#32
  let v2072 : BitVec 32 := Scalar.shrsi v2071 c7_i32
  let v2087 : Index := Scalar.indexCast v2072
  let c0_2067 : Index := 0#32
  let c0_2068 : Index := 0#32
  ![v2087.toNat, 0, 0]

def k0_chk4 (v1285 : BitVec 32) (k0_t3 : Fin k0_t3_loop.trips) (v2068 : BitVec 32) : Prop :=
  (∀ a, (k0_off9 v1285 k0_t3 v2068) a + S1x64x128.size a ≤ S128x64x128.size a) ∧
  (∀ a, (k0_off10 v1285 k0_t3 v2068) a + S1x64x128.size a ≤ S256x64x128.size a)
theorem k0_off9_inb : ∀ (v1285 : BitVec 32) (k0_t3 : Fin k0_t3_loop.trips) (v2068 : BitVec 32) (k0_hw4 : k0_chk4 v1285 k0_t3 v2068), ∀ a, (k0_off9 v1285 k0_t3 v2068) a + S1x64x128.size a ≤ S128x64x128.size a := fun v1285 k0_t3 v2068 k0_hw4 => k0_hw4.1
theorem k0_off10_inb : ∀ (v1285 : BitVec 32) (k0_t3 : Fin k0_t3_loop.trips) (v2068 : BitVec 32) (k0_hw4 : k0_chk4 v1285 k0_t3 v2068), ∀ a, (k0_off10 v1285 k0_t3 v2068) a + S1x64x128.size a ≤ S256x64x128.size a := fun v1285 k0_t3 v2068 k0_hw4 => k0_hw4.2

@[reducible] def k0_t4_loop (v1288 : BitVec 32) : Scf.Loop 32 :=
  let c0_i32_775 : BitVec 32 := 0#32
  let v1289 : BitVec 32 := Scalar.subi v1288 c0_i32_775
  let c1_i32_777 : BitVec 32 := 1#32
  let v1291 : BitVec 32 := Scalar.divsi v1289 c1_i32_777
  let v1292 : BitVec 32 := Scalar.muli v1291 c1_i32_777
  let v1293 : BitVec 32 := Scalar.addi c0_i32_775 v1292
  let c1_i32_778 : BitVec 32 := 1#32
  ⟨c0_i32_775, v1293, c1_i32_778⟩

def k0_off11 (v1288 : BitVec 32) (k0_t4 : Fin (k0_t4_loop v1288).trips) : Fin 1 → Nat :=
  let c0_i32_775 : BitVec 32 := 0#32
  let c1_i32_778 : BitVec 32 := 1#32
  let arg11 : BitVec 32 := Scf.iv c0_i32_775 c1_i32_778 k0_t4
  let v2064 : Index := Scalar.indexCast arg11
  ![v2064.toNat]
def k0_off12 (v1288 : BitVec 32) (k0_t4 : Fin (k0_t4_loop v1288).trips) : Fin 1 → Nat :=
  let c0_i32_775 : BitVec 32 := 0#32
  let c1_i32_778 : BitVec 32 := 1#32
  let arg11 : BitVec 32 := Scf.iv c0_i32_775 c1_i32_778 k0_t4
  let v2070 : Index := Scalar.indexCast arg11
  ![v2070.toNat]
def k0_cond2 (i : grid0.Coords) (v2065 : BitVec 32) : BitVec 1 :=
  let c15_i32 : BitVec 32 := 15#32
  let v2066 : BitVec 32 := Scalar.shrsi v2065 c15_i32
  let arg0 : BitVec 32 := BitVec.ofNat 32 (i 0).val
  let v2067 : BitVec 1 := Scalar.cmpi .eq v2066 arg0
  let v2068 : BitVec 32 := Scalar.extui v2067
  let c0_i32_2060 : BitVec 32 := 0#32
  let v2069 : BitVec 1 := Scalar.cmpi .ne v2068 c0_i32_2060
  v2069

def k0_off13 (v2071 : BitVec 32) : Fin 3 → Nat :=
  let c7_i32_2063 : BitVec 32 := 7#32
  let v2076 : BitVec 32 := Scalar.shrsi v2071 c7_i32_2063
  let v2077 : Index := Scalar.indexCast v2076
  let c0_2064 : Index := 0#32
  let c0_2065 : Index := 0#32
  ![v2077.toNat, 0, 0]

def k0_chk7 (i : grid0.Coords) (v2065 : BitVec 32) (v2071 : BitVec 32) : Prop :=
  (∀ (k0_h2 : k0_cond2 i v2065 = 1#1), ∀ a, (k0_off13 v2071) a + S1x64x128.size a ≤ S128x64x128.size a)
theorem k0_off13_inb : ∀ (i : grid0.Coords) (v2065 : BitVec 32) (v2071 : BitVec 32) (k0_hw7 : k0_chk7 i v2065 v2071), ∀ (k0_h2 : k0_cond2 i v2065 = 1#1), ∀ a, (k0_off13 v2071) a + S1x64x128.size a ≤ S128x64x128.size a := fun i v2065 v2071 k0_hw7 k0_h2 => k0_hw7 k0_h2

def k0_off14 (i : grid0.Coords) (v2065 : BitVec 32) : Fin 3 → Nat :=
  let arg0 : BitVec 32 := BitVec.ofNat 32 (i 0).val
  let c15_i32_2062 : BitVec 32 := 15#32
  let v2072 : BitVec 32 := Scalar.shli arg0 c15_i32_2062
  let v2073 : BitVec 32 := Scalar.subi v2065 v2072
  let c7_i32 : BitVec 32 := 7#32
  let v2074 : BitVec 32 := Scalar.shrsi v2073 c7_i32
  let v2088 : Index := Scalar.indexCast v2074
  let c0_2068 : Index := 0#32
  let c0_2069 : Index := 0#32
  ![v2088.toNat, 0, 0]

def k0_chk6 (i : grid0.Coords) (v1288 : BitVec 32) (k0_t4 : Fin (k0_t4_loop v1288).trips) (v2065 : BitVec 32) : Prop :=
  (∀ (k0_h2 : k0_cond2 i v2065 = 1#1), ∀ a, (k0_off12 v1288 k0_t4) a + S1.size a ≤ S16385.size a) ∧
  (∀ (k0_h2 : k0_cond2 i v2065 = 1#1), ∀ a, (k0_off14 i v2065) a + S1x64x128.size a ≤ S256x64x128.size a)
theorem k0_off12_inb : ∀ (i : grid0.Coords) (v1288 : BitVec 32) (k0_t4 : Fin (k0_t4_loop v1288).trips) (v2065 : BitVec 32) (k0_hw6 : k0_chk6 i v1288 k0_t4 v2065), ∀ (k0_h2 : k0_cond2 i v2065 = 1#1), ∀ a, (k0_off12 v1288 k0_t4) a + S1.size a ≤ S16385.size a := fun i v1288 k0_t4 v2065 k0_hw6 k0_h2 => k0_hw6.1 k0_h2
theorem k0_off14_inb : ∀ (i : grid0.Coords) (v1288 : BitVec 32) (k0_t4 : Fin (k0_t4_loop v1288).trips) (v2065 : BitVec 32) (k0_hw6 : k0_chk6 i v1288 k0_t4 v2065), ∀ (k0_h2 : k0_cond2 i v2065 = 1#1), ∀ a, (k0_off14 i v2065) a + S1x64x128.size a ≤ S256x64x128.size a := fun i v1288 k0_t4 v2065 k0_hw6 k0_h2 => k0_hw6.2 k0_h2

@[reducible] def k0_t5_loop (v1288 : BitVec 32) : Scf.Loop 32 :=
  let c0_i32_775 : BitVec 32 := 0#32
  let v1289 : BitVec 32 := Scalar.subi v1288 c0_i32_775
  let c1_i32_777 : BitVec 32 := 1#32
  let v1291 : BitVec 32 := Scalar.divsi v1289 c1_i32_777
  let v1292 : BitVec 32 := Scalar.muli v1291 c1_i32_777
  let v1293 : BitVec 32 := Scalar.addi c0_i32_775 v1292
  let v1290 : BitVec 32 := Scalar.addi c0_i32_775 v1289
  let c1_i32_779 : BitVec 32 := 1#32
  ⟨v1293, v1290, c1_i32_779⟩
def k0_off15 (v1288 : BitVec 32) (k0_t5 : Fin (k0_t5_loop v1288).trips) : Fin 1 → Nat :=
  let c0_i32_775 : BitVec 32 := 0#32
  let v1289 : BitVec 32 := Scalar.subi v1288 c0_i32_775
  let c1_i32_777 : BitVec 32 := 1#32
  let v1291 : BitVec 32 := Scalar.divsi v1289 c1_i32_777
  let v1292 : BitVec 32 := Scalar.muli v1291 c1_i32_777
  let v1293 : BitVec 32 := Scalar.addi c0_i32_775 v1292
  let c1_i32_779 : BitVec 32 := 1#32
  let arg11 : BitVec 32 := Scf.iv v1293 c1_i32_779 k0_t5
  let v2064 : Index := Scalar.indexCast arg11
  ![v2064.toNat]

def k0_chk5 (v1288 : BitVec 32) : Prop :=
  ((k0_t4_loop v1288).OK) ∧
  (∀ k0_t4 : Fin (k0_t4_loop v1288).trips, ∀ a, (k0_off11 v1288 k0_t4) a + S1.size a ≤ S16385.size a) ∧
  ((k0_t5_loop v1288).OK) ∧
  (∀ k0_t5 : Fin (k0_t5_loop v1288).trips, ∀ a, (k0_off15 v1288 k0_t5) a + S1.size a ≤ S16385.size a)
theorem k0_t4_ok : ∀ (v1288 : BitVec 32) (k0_hw5 : k0_chk5 v1288), (k0_t4_loop v1288).OK := fun v1288 k0_hw5 => k0_hw5.1
theorem k0_off11_inb : ∀ (v1288 : BitVec 32) (k0_hw5 : k0_chk5 v1288) (k0_t4 : Fin (k0_t4_loop v1288).trips), ∀ a, (k0_off11 v1288 k0_t4) a + S1.size a ≤ S16385.size a := fun v1288 k0_hw5 k0_t4 => k0_hw5.2.1 k0_t4
theorem k0_t5_ok : ∀ (v1288 : BitVec 32) (k0_hw5 : k0_chk5 v1288), (k0_t5_loop v1288).OK := fun v1288 k0_hw5 => k0_hw5.2.2.1
theorem k0_off15_inb : ∀ (v1288 : BitVec 32) (k0_hw5 : k0_chk5 v1288) (k0_t5 : Fin (k0_t5_loop v1288).trips), ∀ a, (k0_off15 v1288 k0_t5) a + S1.size a ≤ S16385.size a := fun v1288 k0_hw5 k0_t5 => k0_hw5.2.2.2 k0_t5

def k0_off16 (v1288 : BitVec 32) (k0_t5 : Fin (k0_t5_loop v1288).trips) : Fin 1 → Nat :=
  let c0_i32_775 : BitVec 32 := 0#32
  let v1289 : BitVec 32 := Scalar.subi v1288 c0_i32_775
  let c1_i32_777 : BitVec 32 := 1#32
  let v1291 : BitVec 32 := Scalar.divsi v1289 c1_i32_777
  let v1292 : BitVec 32 := Scalar.muli v1291 c1_i32_777
  let v1293 : BitVec 32 := Scalar.addi c0_i32_775 v1292
  let c1_i32_779 : BitVec 32 := 1#32
  let arg11 : BitVec 32 := Scf.iv v1293 c1_i32_779 k0_t5
  let v2070 : Index := Scalar.indexCast arg11
  ![v2070.toNat]
def k0_cond3 (i : grid0.Coords) (v2065 : BitVec 32) : BitVec 1 :=
  let c15_i32 : BitVec 32 := 15#32
  let v2066 : BitVec 32 := Scalar.shrsi v2065 c15_i32
  let arg0 : BitVec 32 := BitVec.ofNat 32 (i 0).val
  let v2067 : BitVec 1 := Scalar.cmpi .eq v2066 arg0
  let v2068 : BitVec 32 := Scalar.extui v2067
  let c0_i32_2060 : BitVec 32 := 0#32
  let v2069 : BitVec 1 := Scalar.cmpi .ne v2068 c0_i32_2060
  v2069

def k0_off17 (v2071 : BitVec 32) : Fin 3 → Nat :=
  let c7_i32_2063 : BitVec 32 := 7#32
  let v2076 : BitVec 32 := Scalar.shrsi v2071 c7_i32_2063
  let v2077 : Index := Scalar.indexCast v2076
  let c0_2064 : Index := 0#32
  let c0_2065 : Index := 0#32
  ![v2077.toNat, 0, 0]

def k0_chk9 (i : grid0.Coords) (v2065 : BitVec 32) (v2071 : BitVec 32) : Prop :=
  (∀ (k0_h3 : k0_cond3 i v2065 = 1#1), ∀ a, (k0_off17 v2071) a + S1x64x128.size a ≤ S128x64x128.size a)
theorem k0_off17_inb : ∀ (i : grid0.Coords) (v2065 : BitVec 32) (v2071 : BitVec 32) (k0_hw9 : k0_chk9 i v2065 v2071), ∀ (k0_h3 : k0_cond3 i v2065 = 1#1), ∀ a, (k0_off17 v2071) a + S1x64x128.size a ≤ S128x64x128.size a := fun i v2065 v2071 k0_hw9 k0_h3 => k0_hw9 k0_h3

def k0_off18 (i : grid0.Coords) (v2065 : BitVec 32) : Fin 3 → Nat :=
  let arg0 : BitVec 32 := BitVec.ofNat 32 (i 0).val
  let c15_i32_2062 : BitVec 32 := 15#32
  let v2072 : BitVec 32 := Scalar.shli arg0 c15_i32_2062
  let v2073 : BitVec 32 := Scalar.subi v2065 v2072
  let c7_i32 : BitVec 32 := 7#32
  let v2074 : BitVec 32 := Scalar.shrsi v2073 c7_i32
  let v2088 : Index := Scalar.indexCast v2074
  let c0_2068 : Index := 0#32
  let c0_2069 : Index := 0#32
  ![v2088.toNat, 0, 0]

def k0_chk8 (i : grid0.Coords) (v1288 : BitVec 32) (k0_t5 : Fin (k0_t5_loop v1288).trips) (v2065 : BitVec 32) : Prop :=
  (∀ (k0_h3 : k0_cond3 i v2065 = 1#1), ∀ a, (k0_off16 v1288 k0_t5) a + S1.size a ≤ S16385.size a) ∧
  (∀ (k0_h3 : k0_cond3 i v2065 = 1#1), ∀ a, (k0_off18 i v2065) a + S1x64x128.size a ≤ S256x64x128.size a)
theorem k0_off16_inb : ∀ (i : grid0.Coords) (v1288 : BitVec 32) (k0_t5 : Fin (k0_t5_loop v1288).trips) (v2065 : BitVec 32) (k0_hw8 : k0_chk8 i v1288 k0_t5 v2065), ∀ (k0_h3 : k0_cond3 i v2065 = 1#1), ∀ a, (k0_off16 v1288 k0_t5) a + S1.size a ≤ S16385.size a := fun i v1288 k0_t5 v2065 k0_hw8 k0_h3 => k0_hw8.1 k0_h3
theorem k0_off18_inb : ∀ (i : grid0.Coords) (v1288 : BitVec 32) (k0_t5 : Fin (k0_t5_loop v1288).trips) (v2065 : BitVec 32) (k0_hw8 : k0_chk8 i v1288 k0_t5 v2065), ∀ (k0_h3 : k0_cond3 i v2065 = 1#1), ∀ a, (k0_off18 i v2065) a + S1x64x128.size a ≤ S256x64x128.size a := fun i v1288 k0_t5 v2065 k0_hw8 k0_h3 => k0_hw8.2 k0_h3

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1000000x64 : Shape := ⟨2, ![1000000, 64]⟩
abbrev S16384x1 : Shape := ⟨2, ![16384, 1]⟩
abbrev S16384x64 : Shape := ⟨2, ![16384, 64]⟩
abbrev S16384 : Shape := ⟨1, ![16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16384x1, .i32⟩
  | .hbm, ⟨2, _⟩ => ⟨S16384x64, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Model.lean ====
/-
  The bookkeeping of the scatter kernel, over natural numbers.

  The kernel sorts the update numbers `b = 0, 1, …` into buckets: bucket `q` takes the updates whose row `w b` lies in
  `[32768 q, 32768 (q + 1))`. The first 1024 updates of a bucket go into the bucket's list, in order; the later ones go into
  one overflow list shared by all buckets, in order. This module states what the lists hold after the updates before `k`
  (`Sorted`), shows that one more update keeps it (`Sorted.step`), and shows that replaying a bucket's list and then the
  overflow list leaves at each row what replaying all the updates in order leaves (`Sorted.last`).
-/
module

public import Mathlib.Data.Nat.Basic
public import Mathlib.Logic.Function.Basic
public import Mathlib.Tactic.SplitIfs
public import Mathlib.Tactic.ByContra

@[expose] public section

namespace Cert.Scatter

/-- What a cell holds after the writes numbered `0 … n - 1`, of which those satisfying `hit` write it: the value of the last
    one that does, `fill` if none does. -/
def lastPut {β : Type} (hit : ℕ → Prop) [DecidablePred hit] (val : ℕ → β) (fill : β) : ℕ → β
  | 0 => fill
  | n + 1 => if hit n then val n else lastPut hit val fill n

section LastPut

variable {β : Type}

theorem lastPut_zero (hit : ℕ → Prop) [DecidablePred hit] (val : ℕ → β) (fill : β) : lastPut hit val fill 0 = fill := rfl

theorem lastPut_succ (hit : ℕ → Prop) [DecidablePred hit] (val : ℕ → β) (fill : β) (n : ℕ) :
    lastPut hit val fill (n + 1) = if hit n then val n else lastPut hit val fill n := rfl

/-- Only the writes below `n` matter, and of their values only those of the writes that hit. -/
theorem lastPut_congr {hit hit' : ℕ → Prop} [DecidablePred hit] [DecidablePred hit'] {val val' : ℕ → β} {fill fill' : β} {n : ℕ}
    (hh : ∀ k < n, (hit k ↔ hit' k)) (hv : ∀ k < n, hit k → val k = val' k) (hf : fill = fill') :
    lastPut hit val fill n = lastPut hit' val' fill' n := by
  induction n with
  | zero => exact hf
  | succ n ih =>
    have ih := ih (fun k hk => hh k (by omega)) (fun k hk => hv k (by omega))
    rw [lastPut_succ, lastPut_succ, ih]
    by_cases h : hit n
    · rw [if_pos h, if_pos ((hh n (by omega)).1 h), hv n (by omega) h]
    · rw [if_neg h, if_neg fun h' => h ((hh n (by omega)).2 h')]

/-- Where no write hits, the cell keeps what it held. -/
theorem lastPut_none {hit : ℕ → Prop} [DecidablePred hit] {val : ℕ → β} {fill : β} {n : ℕ} (h : ∀ k < n, ¬hit k) :
    lastPut hit val fill n = fill := by
  induction n with
  | zero => rfl
  | succ n ih => rw [lastPut_succ, if_neg (h n (by omega)), ih fun k hk => h k (by omega)]

/-- Writes from `m` on that do not hit may be left out. -/
theorem lastPut_stop {hit : ℕ → Prop} [DecidablePred hit] {val : ℕ → β} {fill : β} {m n : ℕ} (hmn : m ≤ n)
    (h : ∀ k, m ≤ k → k < n → ¬hit k) : lastPut hit val fill n = lastPut hit val fill m := by
  induction n with
  | zero => rw [Nat.le_zero.mp hmn]
  | succ n ih =>
    rcases Nat.lt_or_ge m (n + 1) with hm | hm
    · rw [lastPut_succ, if_neg (h n (by omega) (by omega)), ih (by omega) fun k hk hk' => h k hk (by omega)]
    · rw [Nat.le_antisymm hmn hm]

/-- Applying a function to the values and the initial content applies it to the outcome. -/
theorem lastPut_map {γ : Type} (g : β → γ) (hit : ℕ → Prop) [DecidablePred hit] (val : ℕ → β) (fill : β) (n : ℕ) :
    g (lastPut hit val fill n) = lastPut hit (fun k => g (val k)) (g fill) n := by
  induction n with
  | zero => rfl
  | succ n ih => rw [lastPut_succ, lastPut_succ, ← ih]; split_ifs <;> rfl

end LastPut

/-- An entry of a bucket's list: the row within the bucket and the update's number, in one word. -/
def pack (c b : ℕ) : ℕ := c * 16384 + b

theorem pack_div (c b : ℕ) (hb : b < 16384) : pack c b / 16384 = c := by unfold pack; omega
theorem pack_mod (c b : ℕ) (hb : b < 16384) : pack c b % 16384 = b := by unfold pack; omega

/-- What the lists hold after the updates before `k`, whose rows are `w 0, w 1, …`: `cnt q` updates fell into bucket `q`; the
    first 1024 of them stand in its list `lst q`; the `ovn` others of all the buckets stand in the overflow list, their numbers
    in `ovb` and their rows in `ovc`. `last` is what the lists are for. -/
structure Sorted (w : ℕ → ℕ) (k : ℕ) (cnt : ℕ → ℕ) (lst : ℕ → ℕ → ℕ) (ovb ovc : ℕ → ℕ) (ovn : ℕ) : Prop where
  cnt_le : ∀ q < 32, cnt q ≤ k
  ovn_le : ovn ≤ k
  lst_ok : ∀ q < 32, ∀ j, j < cnt q → j < 1024 → ∃ b, b < k ∧ w b / 32768 = q ∧ lst q j = pack (w b % 32768) b
  ov_ok : ∀ m, m < ovn → ovb m < k ∧ ovc m = w (ovb m)
  room : ∀ q < 32, cnt q < 1024 → ∀ m, m < ovn → ovc m / 32768 ≠ q
  last : ∀ q < 32, ∀ c < 32768, ∀ (β : Type) (val : ℕ → β) (fill : β),
    lastPut (fun m => ovc m = q * 32768 + c) (fun m => val (ovb m))
        (lastPut (fun j => lst q j / 16384 = c) (fun j => val (lst q j % 16384)) fill (min (cnt q) 1024)) ovn
      = lastPut (fun b => w b = q * 32768 + c) val fill k

/-- Before the first update the counts are zero and the overflow list is empty; what the lists hold does not matter. -/
theorem Sorted.init (w : ℕ → ℕ) (cnt : ℕ → ℕ) (lst : ℕ → ℕ → ℕ) (ovb ovc : ℕ → ℕ) (hc : ∀ q < 32, cnt q = 0) :
    Sorted w 0 cnt lst ovb ovc 0 where
  cnt_le q hq := Nat.le_of_eq (hc q hq)
  ovn_le := le_rfl
  lst_ok q hq j hj := by rw [hc q hq] at hj; exact absurd hj (Nat.not_lt_zero j)
  ov_ok m hm := absurd hm (Nat.not_lt_zero m)
  room q _ _ m hm := absurd hm (Nat.not_lt_zero m)
  last q hq c _ β val fill := by rw [hc q hq]; rfl

/-- ONE MORE UPDATE. The update's bucket is `w k / 32768`. The entry is put at the bucket's next place, the place 1024 being one
    that nobody reads; the update's number and row are put at the overflow list's next place if the bucket's list is full,
    otherwise at the place 16384, which nobody reads; the two counts advance accordingly. -/
theorem Sorted.step {w : ℕ → ℕ} {k : ℕ} {cnt : ℕ → ℕ} {lst : ℕ → ℕ → ℕ} {ovb ovc : ℕ → ℕ} {ovn : ℕ}
    (h : Sorted w k cnt lst ovb ovc ovn) (hk : k < 16384) (hw : w k < 1000000) :
    Sorted w (k + 1)
      (fun q => if q = w k / 32768 then cnt (w k / 32768) + 1 else cnt q)
      (fun q j => if q = w k / 32768 ∧ j = min (cnt (w k / 32768)) 1024 then pack (w k % 32768) k else lst q j)
      (fun m => if m = (if 1024 ≤ cnt (w k / 32768) then ovn else 16384) then k else ovb m)
      (fun m => if m = (if 1024 ≤ cnt (w k / 32768) then ovn else 16384) then w k else ovc m)
      (ovn + if 1024 ≤ cnt (w k / 32768) then 1 else 0) := by
  obtain ⟨hcl, hol, hlo, hov, hro, hla⟩ := h
  have hq0 : w k / 32768 < 32 := by omega
  have hcq := hcl _ hq0
  generalize hq : w k / 32768 = q0 at *
  generalize hc : w k % 32768 = c0
  have hwk : w k = q0 * 32768 + c0 := by omega
  have hc0 : c0 < 32768 := by omega
  have hpd := pack_div c0 k hk
  have hpm := pack_mod c0 k hk
  by_cases hfull : 1024 ≤ cnt q0
  · simp only [if_pos hfull, Nat.min_eq_right hfull]
    refine ⟨fun q hq' => ?_, by omega, fun q hq' j hj hj' => ?_, fun m hm => ?_, fun q hq' hr m hm => ?_, fun q hq' c hc' β val fill => ?_⟩
    · have := hcl q hq'; (try dsimp only); split_ifs <;> omega
    · try dsimp only at hj ⊢
      have hj2 : j < cnt q := by
        split_ifs at hj with h1
        · subst h1; omega
        · exact hj
      obtain ⟨b, hb, hb1, hb2⟩ := hlo q hq' j hj2 hj'
      exact ⟨b, by omega, hb1, by rw [if_neg (by omega)]; exact hb2⟩
    · try dsimp only
      by_cases hmo : m = ovn
      · rw [if_pos hmo, if_pos hmo]; exact ⟨by omega, rfl⟩
      · rw [if_neg hmo, if_neg hmo]; have := hov m (by omega); exact ⟨by omega, this.2⟩
    · try dsimp only at hr ⊢
      have hne : q ≠ q0 := by
        intro e; rw [if_pos e] at hr; omega
      rw [if_neg hne] at hr
      by_cases hmo : m = ovn
      · rw [if_pos hmo]; omega
      · rw [if_neg hmo]; exact hro q hq' hr m (by omega)
    · try dsimp only
      have hla' := hla q hq' c hc' β val fill
      rw [lastPut_succ, lastPut_succ]
      try dsimp only
      rw [if_pos rfl, if_pos rfl]
      by_cases hhit : w k = q * 32768 + c
      · rw [if_pos hhit, if_pos hhit]
      · rw [if_neg hhit, if_neg hhit, ← hla']
        refine lastPut_congr (fun m hm => ?_) (fun m hm _ => ?_) ?_
        · (try dsimp only); rw [if_neg (by omega)]
        · (try dsimp only); rw [if_neg (by omega)]
        · have hmin : min (if q = q0 then cnt q0 + 1 else cnt q) 1024 = min (cnt q) 1024 := by
            split_ifs with e
            · subst e; omega
            · rfl
          rw [hmin]
          refine lastPut_congr (fun j hj => ?_) (fun j hj _ => ?_) rfl
          · (try dsimp only); rw [if_neg (by omega)]
          · (try dsimp only); rw [if_neg (by omega)]
  · have hlt : cnt q0 < 1024 := by omega
    simp only [if_neg hfull, Nat.min_eq_left (Nat.le_of_lt hlt), Nat.add_zero]
    refine ⟨fun q hq' => ?_, by omega, fun q hq' j hj hj' => ?_, fun m hm => ?_, fun q hq' hr m hm => ?_, fun q hq' c hc' β val fill => ?_⟩
    · have := hcl q hq'; (try dsimp only); split_ifs <;> omega
    · try dsimp only at hj ⊢
      by_cases hnew : q = q0 ∧ j = cnt q0
      · exact ⟨k, by omega, by omega, by rw [if_pos hnew, hc]⟩
      · have hj2 : j < cnt q := by
          split_ifs at hj with h1
          · subst h1; omega
          · exact hj
        obtain ⟨b, hb, hb1, hb2⟩ := hlo q hq' j hj2 hj'
        exact ⟨b, by omega, hb1, by rw [if_neg hnew]; exact hb2⟩
    · try dsimp only
      rw [if_neg (by omega), if_neg (by omega)]; have := hov m hm; exact ⟨by omega, this.2⟩
    · try dsimp only at hr ⊢
      rw [if_neg (by omega)]
      by_cases e : q = q0
      · subst e; exact hro q hq' hlt m hm
      · rw [if_neg e] at hr; exact hro q hq' hr m hm
    · try dsimp only
      have hla' := hla q hq' c hc' β val fill
      rw [lastPut_succ]
      by_cases e : q = q0
      · subst e
        have hno : ∀ m < ovn, ¬ovc m = q * 32768 + c := fun m hm e' => hro q hq' hlt m hm (by omega)
        rw [lastPut_none hno] at hla'
        rw [lastPut_none (fun m hm => by (try dsimp only); rw [if_neg (by omega)]; exact hno m hm), if_pos rfl,
          Nat.min_eq_left (by omega), lastPut_succ]
        rw [Nat.min_eq_left (Nat.le_of_lt hlt)] at hla'
        simp only [eq_self_iff_true, and_self, if_true, hpd, hpm]
        by_cases hhit : w k = q * 32768 + c
        · rw [if_pos hhit, if_pos (by omega)]
        · rw [if_neg hhit, if_neg (by omega), ← hla']
          refine lastPut_congr (fun j hj => ?_) (fun j hj _ => ?_) rfl
          · (try dsimp only); rw [if_neg (by omega)]
          · (try dsimp only); rw [if_neg (by omega)]
      · have hhit : ¬w k = q * 32768 + c := by omega
        rw [if_neg hhit, if_neg e, ← hla']
        refine lastPut_congr (fun m hm => ?_) (fun m hm _ => ?_) ?_
        · (try dsimp only); rw [if_neg (by omega)]
        · (try dsimp only); rw [if_neg (by omega)]
        · refine lastPut_congr (fun j hj => ?_) (fun j hj _ => ?_) rfl
          · (try dsimp only); rw [if_neg (by omega)]
          · (try dsimp only); rw [if_neg (by omega)]

end Cert.Scatter
-- ==== Proof.Words.lean ====
/-
  The words the kernel computes, read as natural numbers, and the memories it reads and writes one word at a time, read as
  functions of natural numbers.
-/
module

public import Idealize.ShloMosaic.Lib.WordArith
public import Idealize.ShloMosaic.Lib.WordCmp
public import Idealize.ShloMosaic.Lib.WritesUnit
public import proofs.«01_k».proof.Proof.Model

@[expose] public section

noncomputable section

namespace Cert.Scatter

open Idealize.ShloMosaic

/-! ## Words -/

section Words

theorem shrsi_toNat (x s : BitVec 32) (n : ℕ) (hs : s.toNat = n) (hn : n < 32) (hx : x.toNat < 2 ^ 31) :
    (Scalar.shrsi x s).toNat = x.toNat / 2 ^ n := by
  subst hs
  have hm : x.msb = false := by rw [BitVec.msb_eq_decide]; simp; omega
  unfold Scalar.shrsi IntOp.shrsi
  rw [if_pos hn, show x.sshiftRight' s = x.sshiftRight s.toNat from rfl, BitVec.sshiftRight_eq_of_msb_false hm, BitVec.toNat_ushiftRight, Nat.shiftRight_eq_div_pow]

theorem shli_toNat (x s : BitVec 32) (n : ℕ) (hs : s.toNat = n) (hn : n < 32) (hx : x.toNat * 2 ^ n < 2 ^ 32) :
    (Scalar.shli x s).toNat = x.toNat * 2 ^ n := by
  subst hs
  unfold Scalar.shli IntOp.shli
  rw [if_pos hn, BitVec.shiftLeft_eq', BitVec.toNat_shiftLeft, Nat.shiftLeft_eq, Nat.mod_eq_of_lt hx]

theorem minsi_toNat (x c : BitVec 32) (hx : x.toNat < 2 ^ 31) (hc : c.toNat < 2 ^ 31) :
    (Scalar.minsi x c).toNat = min x.toNat c.toNat := by
  unfold Scalar.minsi IntOp.minsi BitVec.slt
  rw [BitVec.toInt_eq_toNat_of_lt (by omega), BitVec.toInt_eq_toNat_of_lt (by omega)]
  split_ifs with h <;> simp only [decide_eq_true_eq] at h <;> omega

theorem andi_toNat (x m : BitVec 32) (n : ℕ) (hm : m.toNat = 2 ^ n - 1) : (Scalar.andi x m).toNat = x.toNat % 2 ^ n := by
  unfold Scalar.andi IntOp.andi
  rw [BitVec.toNat_and, hm, Nat.and_two_pow_sub_one_eq_mod]

theorem subi_toNat (x y : BitVec 32) (h : y.toNat ≤ x.toNat) : (Scalar.subi x y).toNat = x.toNat - y.toNat := by
  unfold Scalar.subi IntOp.subi
  exact BitVec.toNat_sub_of_le h

theorem addi_toNat (x y : BitVec 32) (h : x.toNat + y.toNat < 2 ^ 32) : (Scalar.addi x y).toNat = x.toNat + y.toNat := by
  unfold Scalar.addi IntOp.addi
  rw [BitVec.toNat_add, Nat.mod_eq_of_lt h]

theorem ori_toNat (x y : BitVec 32) (a n : ℕ) (hx : x.toNat = a * 2 ^ n) (hy : y.toNat < 2 ^ n) :
    (Scalar.ori x y).toNat = a * 2 ^ n + y.toNat := by
  unfold Scalar.ori IntOp.ori
  rw [BitVec.toNat_or, hx, Nat.mul_comm, ← Nat.two_pow_add_eq_or_of_lt hy]

theorem cmpi_sge_iff (x y : BitVec 32) (hx : x.toNat < 2 ^ 31) (hy : y.toNat < 2 ^ 31) :
    Scalar.cmpi .sge x y = 1#1 ↔ y.toNat ≤ x.toNat := by
  unfold Scalar.cmpi
  rw [WordCmp.cmpi_sge_eq, WordCmp.ofBool_decide_eq_one_iff, BitVec.toInt_eq_toNat_of_lt (by omega), BitVec.toInt_eq_toNat_of_lt (by omega)]
  omega

theorem cmpi_slt_iff (x y : BitVec 32) (hx : x.toNat < 2 ^ 31) (hy : y.toNat < 2 ^ 31) :
    Scalar.cmpi .slt x y = 1#1 ↔ x.toNat < y.toNat := by
  unfold Scalar.cmpi
  rw [WordCmp.cmpi_slt_eq, WordCmp.ofBool_decide_eq_one_iff, BitVec.toInt_eq_toNat_of_lt (by omega), BitVec.toInt_eq_toNat_of_lt (by omega)]
  omega

theorem cmpi_eq_iff (x y : BitVec 32) : Scalar.cmpi .eq x y = 1#1 ↔ x.toNat = y.toNat := by
  unfold Scalar.cmpi
  rw [WordCmp.cmpi_eq_eq, WordCmp.ofBool_decide_eq_one_iff]
  exact ⟨fun h => by rw [h], BitVec.eq_of_toNat_eq⟩

theorem select_toNat {c : BitVec 1} {p : Prop} [Decidable p] (h : c = 1#1 ↔ p) (x y : BitVec 32) :
    (Scalar.select c x y).toNat = if p then x.toNat else y.toNat := by
  by_cases hp : p
  · rw [if_pos hp]
    exact congrArg _ (if_pos (h.2 hp))
  · rw [if_neg hp]
    exact congrArg _ (if_neg fun e => hp (h.1 e))

/-- The condition of an `scf.if` on a comparison widened to a word and compared with zero. -/
theorem ne_extui_iff (b : BitVec 1) : Scalar.cmpi .ne (Scalar.extui b) 0#32 = 1#1 ↔ b = 1#1 := by
  revert b; decide

/-- The counter of a loop from 0 by steps of 1. -/
theorem iv_toNat (k : ℕ) (h : k < 2 ^ 32) : (Scf.iv 0#32 1#32 k).toNat = k := by
  unfold Scf.iv
  simp only [BitVec.mul_one, BitVec.zero_add, BitVec.toNat_ofNat]
  exact Nat.mod_eq_of_lt h

/-- The word filed in a bucket: the column within the bucket above the update's number. -/
theorem packed_toNat (v b : BitVec 32) (n k : ℕ) (hv : v.toNat = n) (hn : n < 1000000) (hb : b.toNat = k) (hk : k < 16384) :
    (Scalar.ori (Scalar.shli (Scalar.subi v (Scalar.shli (Scalar.shrsi v 15#32) 15#32)) 14#32) b).toNat = pack (n % 32768) k := by
  have e1 : (Scalar.shrsi v 15#32).toNat = n / 32768 := (shrsi_toNat v 15#32 15 rfl (by decide) (by omega)).trans (by rw [hv]; rfl)
  have e2 : (Scalar.shli (Scalar.shrsi v 15#32) 15#32).toNat = n / 32768 * 32768 :=
    (shli_toNat _ 15#32 15 rfl (by decide) (by omega)).trans (by rw [e1]; rfl)
  have e3 : (Scalar.subi v (Scalar.shli (Scalar.shrsi v 15#32) 15#32)).toNat = n % 32768 :=
    (subi_toNat _ _ (by omega)).trans (by omega)
  have e4 : (Scalar.shli (Scalar.subi v (Scalar.shli (Scalar.shrsi v 15#32) 15#32)) 14#32).toNat = n % 32768 * 2 ^ 14 :=
    (shli_toNat _ 14#32 14 rfl (by decide) (by omega)).trans (by rw [e3])
  refine (ori_toNat _ _ _ 14 e4 (by omega)).trans ?_
  unfold pack
  omega

end Words

/-! ## Memories of words -/

section Mem

/-- The index of a word of a table. -/
def ix1 {n : ℕ} (i : ℕ) (h : i < n) : (⟨1, ![n]⟩ : Shape).Idx :=
  fun a => ⟨i, by have : a = 0 := Subsingleton.elim _ _; subst this; exact h⟩

/-- The index of a word of a table of rows. -/
def ix2 {m n : ℕ} (i j : ℕ) (h : i < m) (h' : j < n) : (⟨2, ![m, n]⟩ : Shape).Idx :=
  fun a => match a with | 0 => ⟨i, h⟩ | 1 => ⟨j, h'⟩

theorem ix1_val {n i : ℕ} (h : i < n) (a : Fin 1) : (ix1 (n := n) i h a).val = i := rfl
theorem ix2_val_0 {m n i j : ℕ} (h : i < m) (h' : j < n) : (ix2 (m := m) (n := n) i j h h' 0).val = i := rfl
theorem ix2_val_1 {m n i j : ℕ} (h : i < m) (h' : j < n) : (ix2 (m := m) (n := n) i j h h' 1).val = j := rfl

/-- A table of words as a function of natural numbers (0 past its end). -/
def at1 {n : ℕ} (x : (⟨1, ![n]⟩ : Shape).Idx → BitVec 32) (i : ℕ) : ℕ :=
  if h : i < n then (x (ix1 i h)).toNat else 0

/-- A table of rows of words as a function of natural numbers (0 outside). -/
def at2 {m n : ℕ} (x : (⟨2, ![m, n]⟩ : Shape).Idx → BitVec 32) (i j : ℕ) : ℕ :=
  if h : i < m ∧ j < n then (x (ix2 i j h.1 h.2)).toNat else 0

theorem at1_eq {n : ℕ} (x : (⟨1, ![n]⟩ : Shape).Idx → BitVec 32) (y : (⟨1, ![n]⟩ : Shape).Idx) : (x y).toNat = at1 x (y 0).val := by
  unfold at1
  rw [dif_pos (show (y 0).val < n from (y 0).isLt)]
  congr 2
  funext a; have : a = 0 := Subsingleton.elim _ _; subst this; rfl

theorem at2_eq {m n : ℕ} (x : (⟨2, ![m, n]⟩ : Shape).Idx → BitVec 32) (y : (⟨2, ![m, n]⟩ : Shape).Idx) :
    (x y).toNat = at2 x (y 0).val (y 1).val := by
  unfold at2
  rw [dif_pos (show (y 0).val < m ∧ (y 1).val < n from ⟨(y 0).isLt, (y 1).isLt⟩)]
  congr 2
  funext a; match a with | 0 => rfl | 1 => rfl

variable {sig : RefSig} {κ : Kind} {sp : Space} {F : FTy → Type}

/-- One word stored into a table: the other words stay. -/
theorem at1_store {n : ℕ} (v : View sig κ sp (⟨1, ![n]⟩ : Shape) .i32) (f : v.ty.Contents (Elt F)) {off size : Fin 1 → ℕ}
    (inb : ∀ a, off a + size a ≤ (⟨1, ![n]⟩ : Shape).size a) (w : (Rect.unit (s := ⟨1, ![n]⟩) off size inb).shape.Idx → BitVec 32)
    (L : List (View.Piece (Elt F) ⟨1, ![n]⟩ .i32)) (word o : ℕ) (hw : ∀ x, (w x).toNat = word) (ho : off 0 = o) (hs : size 0 = 1) :
    at1 (v.read (Elt F) (v.writes (Elt F) f (⟨Rect.unit (s := ⟨1, ![n]⟩) off size inb, w⟩ :: L)))
      = fun i => if i = o then word else at1 (v.read (Elt F) (v.writes (Elt F) f L)) i := by
  subst ho
  have hin : off 0 + size 0 ≤ n := inb 0
  funext i
  by_cases hi : i < n
  · unfold at1
    rw [dif_pos hi, dif_pos hi, View.read_writes_cons_unit v f inb w L _ rfl]
    by_cases he : i = off 0
    · rw [dif_pos (by intro a; have : a = 0 := Subsingleton.elim _ _; subst this; rw [ix1_val]; omega), if_pos he]
      exact hw _
    · rw [dif_neg (by intro h; have := h 0; rw [ix1_val] at this; omega), if_neg he]
  · unfold at1
    rw [dif_neg hi, dif_neg hi, if_neg (by omega)]

/-- One word stored into a table of rows: the other words stay. -/
theorem at2_store {m n : ℕ} (v : View sig κ sp (⟨2, ![m, n]⟩ : Shape) .i32) (f : v.ty.Contents (Elt F)) {off size : Fin 2 → ℕ}
    (inb : ∀ a, off a + size a ≤ (⟨2, ![m, n]⟩ : Shape).size a) (w : (Rect.unit (s := ⟨2, ![m, n]⟩) off size inb).shape.Idx → BitVec 32)
    (L : List (View.Piece (Elt F) ⟨2, ![m, n]⟩ .i32)) (word o p : ℕ) (hw : ∀ x, (w x).toNat = word) (ho : off 0 = o) (hp : off 1 = p)
    (hs : size 0 = 1) (hs' : size 1 = 1) :
    at2 (v.read (Elt F) (v.writes (Elt F) f (⟨Rect.unit (s := ⟨2, ![m, n]⟩) off size inb, w⟩ :: L)))
      = fun i j => if i = o ∧ j = p then word else at2 (v.read (Elt F) (v.writes (Elt F) f L)) i j := by
  subst ho hp
  have hin : off 0 + size 0 ≤ m := inb 0
  have hin' : off 1 + size 1 ≤ n := inb 1
  funext i j
  by_cases hi : i < m ∧ j < n
  · unfold at2
    rw [dif_pos hi, dif_pos hi, View.read_writes_cons_unit v f inb w L _ rfl]
    by_cases he : i = off 0 ∧ j = off 1
    · rw [dif_pos (by rw [Fin.forall_fin_two, ix2_val_0, ix2_val_1]; omega), if_pos he]
      exact hw _
    · rw [dif_neg (by intro h; have h0 := h 0; have h1 := h 1; rw [ix2_val_0] at h0; rw [ix2_val_1] at h1; omega), if_neg he]
  · unfold at2
    rw [dif_neg hi, dif_neg hi, if_neg (by omega)]

/-- A word loaded from a table. -/
theorem at1_load {n : ℕ} (v : View sig κ sp (⟨1, ![n]⟩ : Shape) .i32) (f : v.ty.Contents (Elt F)) {off size : Fin 1 → ℕ}
    (inb : ∀ a, off a + size a ≤ (⟨1, ![n]⟩ : Shape).size a) (x : (Rect.unit (s := ⟨1, ![n]⟩) off size inb).toLoadRect.shape.Idx) (o : ℕ)
    (ho : off 0 = o) (hs : size 0 = 1) :
    BitVec.toNat (v.readAt (Elt F) (Rect.unit (s := ⟨1, ![n]⟩) off size inb).toLoadRect f x) = at1 (v.read (Elt F) f) o := by
  rw [View.readAt_apply]
  refine (at1_eq (n := n) (v.read (Elt F) f) _).trans (congrArg _ ?_)
  show off 0 + 1 * (x 0).val = o
  have : (x 0).val < size 0 := (x 0).isLt
  omega

/-- A word loaded from a table of rows. -/
theorem at2_load {m n : ℕ} (v : View sig κ sp (⟨2, ![m, n]⟩ : Shape) .i32) (f : v.ty.Contents (Elt F)) {off size : Fin 2 → ℕ}
    (inb : ∀ a, off a + size a ≤ (⟨2, ![m, n]⟩ : Shape).size a) (x : (Rect.unit (s := ⟨2, ![m, n]⟩) off size inb).toLoadRect.shape.Idx) (o p : ℕ)
    (ho : off 0 = o) (hp : off 1 = p) (hs : size 0 = 1) (hs' : size 1 = 1) :
    BitVec.toNat (v.readAt (Elt F) (Rect.unit (s := ⟨2, ![m, n]⟩) off size inb).toLoadRect f x) = at2 (v.read (Elt F) f) o p := by
  rw [View.readAt_apply]
  refine (at2_eq (m := m) (n := n) (v.read (Elt F) f) _).trans ?_
  have h0 : (x 0).val < size 0 := (x 0).isLt
  have h1 : (x 1).val < size 1 := (x 1).isLt
  refine congr (congrArg _ ?_) ?_
  · show off 0 + 1 * (x 0).val = o
    omega
  · show off 1 + 1 * (x 1).val = p
    omega

end Mem

end Cert.Scatter
-- ==== Proof.Scattered.lean ====
/-
  The result both programs compute: the data with, in each row, the values of the last update that goes to it.

  The reference's scatter goes through the updates' elements in row-major order, 64 of them to an update, and writes each at
  the update's row and the element's column. Read at one element of the result that is a run through the updates, the last
  of those that go to the element's row winning.
-/
module

public import Idealize.ShloMosaic.Lib.KernelVsHost
public import Idealize.ShloMosaic.Lib.Pipeline.Value
public import Idealize.ShloMosaic.Lib.Routing.OpsPair
public import proofs.«01_k».proof.Proof.Words

@[expose] public section

noncomputable section

namespace Cert.Scatter

open Idealize.ShloMosaic

variable {α : Type}

/-- The row update `b` goes to. -/
def rowOf (g : (⟨2, ![16384, 1]⟩ : Shape).Idx → BitVec 32) (b : ℕ) : ℕ := at2 g b 0

/-- The value update `b` has for column `d`. -/
def given (u : (⟨2, ![16384, 64]⟩ : Shape).Idx → α) (b : ℕ) (d : Fin 64) : α :=
  u (ix2 (b % 16384) d.val (Nat.mod_lt _ (by decide)) d.isLt)

/-- The data with each row's last update put in. -/
def scattered (x : (⟨2, ![1000000, 64]⟩ : Shape).Idx → α) (g : (⟨2, ![16384, 1]⟩ : Shape).Idx → BitVec 32)
    (u : (⟨2, ![16384, 64]⟩ : Shape).Idx → α) : (⟨2, ![1000000, 64]⟩ : Shape).Idx → α := fun y =>
  lastPut (fun b => rowOf g b = (y 0).val) (fun b => given u b (y 1)) (x y) 16384

/-! ## The fold -/

/-- A fold over the numbers below `N` that replaces its value at those that hit leaves the last of theirs. -/
theorem foldl_lastPut (hit : ℕ → Prop) [DecidablePred hit] (val : ℕ → α) (fill : α) :
    ∀ N, (List.finRange N).foldl (fun a (n : Fin N) => if hit n.val then val n.val else a) fill = lastPut hit val fill N
  | 0 => rfl
  | N + 1 => by
    rw [List.finRange_succ_last, List.foldl_append, List.foldl_map, lastPut_succ, ← foldl_lastPut hit val fill N]
    rfl

/-- `C` writes to an update, of which the one of column `d` counts, are one write to an update. -/
theorem lastPut_columns (row : ℕ → Prop) [DecidablePred row] (val : ℕ → α) (fill : α) (C d : ℕ) (hd : d < C) (B : ℕ) :
    lastPut (fun n => row (n / C) ∧ n % C = d) (fun n => val (n / C)) fill (B * C) = lastPut row val fill B := by
  have hq : ∀ b e, e < C → (b * C + e) / C = b := fun b e he => by
    rw [Nat.mul_comm, Nat.mul_add_div (by omega), Nat.div_eq_of_lt he, Nat.add_zero]
  have hr : ∀ b e, e < C → (b * C + e) % C = e := fun b e he => by
    rw [Nat.mul_comm, Nat.mul_add_mod, Nat.mod_eq_of_lt he]
  induction B with
  | zero => rw [Nat.zero_mul]; rfl
  | succ B ih =>
    have hB : (B + 1) * C = B * C + C := Nat.succ_mul B C
    have hmiss : ∀ k, B * C ≤ k → k < B * C + C → k ≠ B * C + d → ¬(row (k / C) ∧ k % C = d) := fun k h1 h2 hne h => by
      have := hr B (k - B * C) (by omega)
      rw [show B * C + (k - B * C) = k by omega] at this
      omega
    rw [hB, lastPut_stop (m := B * C + d + 1) (by omega) (fun k h1 h2 => hmiss k (by omega) h2 (by omega)), lastPut_succ, lastPut_succ,
      hq B d hd, hr B d hd, lastPut_stop (m := B * C) (by omega) (fun k h1 h2 => hmiss k h1 (by omega) (by omega)), ih]
    by_cases h : row B
    · rw [if_pos h, if_pos ⟨h, rfl⟩]
    · rw [if_neg h, if_neg fun h' => h h'.1]

/-! ## Where an update's element lands -/

section Lands

variable {R C B w : ℕ} (wf : ScatterDims.WF (⟨2, ![R, C]⟩ : Shape) (⟨2, ![B, 1]⟩ : Shape) (⟨2, ![B, C]⟩ : Shape) [1] [0] [0] 1)

/-- The scatter of rows: an update's first axis picks its index word, its second is the column. -/
abbrev rowDims : ScatterDims (⟨2, ![R, C]⟩ : Shape) (⟨2, ![B, 1]⟩ : Shape) (⟨2, ![B, C]⟩ : Shape) where
  updateWindowDims := [1]
  insertedWindowDims := [0]
  scatterDimsToOperandDims := [0]
  indexVectorDim := 1
  wf := wf

theorem window_0 (k : (⟨2, ![B, C]⟩ : Shape).Idx) : (rowDims wf).window k 0 = 0 := rfl
theorem window_1 (k : (⟨2, ![B, C]⟩ : Shape).Idx) : (rowDims wf).window k 1 = (k 1).val := rfl
theorem start_1 (k : (⟨2, ![B, C]⟩ : Shape).Idx) (idx : IVec (⟨2, ![B, 1]⟩ : Shape) w) : (rowDims wf).start k idx 1 = 0 := rfl
theorem start_0 (k : (⟨2, ![B, C]⟩ : Shape).Idx) (idx : IVec (⟨2, ![B, 1]⟩ : Shape) w) :
    (rowDims wf).start k idx 0 = (idx (ix2 (k 0).val 0 (k 0).isLt (by decide))).toInt := by
  unfold ScatterDims.start
  rw [dif_pos (show (0 : Fin 2) ∈ [(0 : Fin 2)] from List.mem_singleton_self _)]
  refine congrArg (fun i => (idx i).toInt) (funext fun b => Fin.ext ?_)
  match b with
  | ⟨0, _⟩ => rfl
  | ⟨1, _⟩ => rfl

theorem lands (k : (⟨2, ![B, C]⟩ : Shape).Idx) (idx : IVec (⟨2, ![B, 1]⟩ : Shape) w) (y : (⟨2, ![R, C]⟩ : Shape).Idx) :
    (rowDims wf).resultIdx? k idx = some y
      ↔ (idx (ix2 (k 0).val 0 (k 0).isLt (by decide))).toInt = ((y 0).val : Int) ∧ (k 1).val = (y 1).val := by
  rw [Routing.resultIdx?_eq_some]
  constructor
  · intro h
    have h0 := h 0
    have h1 := h 1
    rw [start_0, window_0] at h0
    rw [start_1, window_1] at h1
    omega
  · intro ⟨h0, h1⟩ a
    match a with
    | ⟨0, _⟩ =>
      refine (congrArg₂ (fun (p : Int) (q : ℕ) => p + (q : Int)) (start_0 wf k idx) (window_0 wf k)).trans ?_
      show _ = ((y 0).val : Int)
      omega
    | ⟨1, _⟩ =>
      refine (congrArg₂ (fun (p : Int) (q : ℕ) => p + (q : Int)) (start_1 wf k idx) (window_1 wf k)).trans ?_
      show _ = ((y 1).val : Int)
      omega

theorem numel_two (B C : ℕ) : (⟨2, ![B, C]⟩ : Shape).numel = B * C := by
  show ∏ a : Fin 2, (![B, C] : Fin 2 → ℕ) a = B * C
  rw [Fin.prod_univ_two]
  rfl

/-- The scatter of rows, its body returning the update, every index word below 2³¹. -/
theorem scatter_rows (x : (⟨2, ![R, C]⟩ : Shape).Idx → α) (g : IVec (⟨2, ![B, 1]⟩ : Shape) 32) (u : (⟨2, ![B, C]⟩ : Shape).Idx → α)
    (hg : ∀ i, (g i).toNat < 2 ^ 31) (val : ℕ → Fin C → α) (hval : ∀ b (hb : b < B) d, val b d = u (ix2 b d.val hb d.isLt))
    (y : (⟨2, ![R, C]⟩ : Shape).Idx) :
    Host.scatter (rowDims wf) (fun _ b => b) x g u y
      = lastPut (fun b => at2 g b 0 = (y 0).val) (fun b => val b (y 1)) (x y) B := by
  have hy1 : (y 1).val < C := (y 1).isLt
  rw [Routing.scatter_at, ← lastPut_columns (fun b => at2 g b 0 = (y 0).val) (fun b => val b (y 1)) (x y) C (y 1).val hy1 B,
    ← numel_two B C, ← foldl_lastPut]
  refine congrArg (fun f => List.foldl f (x y) _) (funext fun a => funext fun n => ?_)
  have hk := Shape.rowMajor_val_two ((⟨2, ![B, C]⟩ : Shape).rowMajor.symm n)
  rw [Equiv.apply_symm_apply] at hk
  generalize (⟨2, ![B, C]⟩ : Shape).rowMajor.symm n = k at hk
  have hk0 : (k 0).val < B := (k 0).isLt
  have hk1 : (k 1).val < C := (k 1).isLt
  have hk : n.val = (k 0).val * C + (k 1).val := hk
  have h0 : n.val / C = (k 0).val := by
    rw [hk, Nat.mul_comm, Nat.mul_add_div (by omega), Nat.div_eq_of_lt hk1, Nat.add_zero]
  have h1 : n.val % C = (k 1).val := by
    rw [hk, Nat.mul_comm, Nat.mul_add_mod, Nat.mod_eq_of_lt hk1]
  have hrow : at2 g (n.val / C) 0 = (g (ix2 (k 0).val 0 hk0 (by decide))).toNat := by
    rw [h0]
    unfold at2
    rw [dif_pos ⟨hk0, by decide⟩]
  have hg' := hg (ix2 (k 0).val 0 hk0 (by decide))
  have hiff : (rowDims wf).resultIdx? k g = some y ↔ at2 g (n.val / C) 0 = (y 0).val ∧ n.val % C = (y 1).val := by
    rw [lands, hrow, h1, BitVec.toInt_eq_toNat_of_lt (by omega)]
    omega
  by_cases h : at2 g (n.val / C) 0 = (y 0).val ∧ n.val % C = (y 1).val
  · rw [if_pos h, if_pos (hiff.2 h), h0]
    refine Eq.trans ?_ (hval _ hk0 (y 1)).symm
    refine congrArg u (funext fun a => Fin.ext ?_)
    match a with
    | ⟨0, _⟩ => rfl
    | ⟨1, _⟩ => show (k 1).val = (y 1).val; omega
  · rw [if_neg h, if_neg fun h' => h (hiff.1 h')]

end Lands

/-- The reference's scatter is `scattered`. -/
theorem scatter_eq (wf : ScatterDims.WF (⟨2, ![1000000, 64]⟩ : Shape) (⟨2, ![16384, 1]⟩ : Shape) (⟨2, ![16384, 64]⟩ : Shape) [1] [0] [0] 1)
    (x : (⟨2, ![1000000, 64]⟩ : Shape).Idx → α) (g : IVec (⟨2, ![16384, 1]⟩ : Shape) 32) (u : (⟨2, ![16384, 64]⟩ : Shape).Idx → α)
    (hg : ∀ i, (g i).toNat < 2 ^ 31) : Host.scatter (rowDims wf) (fun _ b => b) x g u = scattered x g u :=
  funext fun y => scatter_rows wf x g u hg (given u) (fun b hb d => congrArg u (funext fun a => Fin.ext (match a with
    | ⟨0, _⟩ => Nat.mod_eq_of_lt hb
    | ⟨1, _⟩ => rfl))) y

end Cert.Scatter

end
-- ==== Proof.InRange.lean ====
/- What the claims' precondition says of the index words, read as numbers. -/
module

public import proofs.«01_k».proof.Pre_in_range
public import proofs.«01_k».proof.Proof.Scattered
public import Idealize.ShloMosaic.Lib.Affine

@[expose] public section

noncomputable section

namespace Cert.Scatter

open Idealize.ShloMosaic

/-- A word that is at least 0 and less than 1000000 as a signed number is less than 1000000 as a number. -/
theorem word_small (w : BitVec 32) (h : IntOp.andi (IntOp.cmpi .sge w 0#32) (IntOp.cmpi .slt w 1000000#32) = 1#1) :
    w.toNat < 1000000 := by
  have h0 : (0#32).sle w = true := by
    cases hs : (0#32).sle w with
    | true => rfl
    | false =>
      have hz : IntOp.cmpi .sge w 0#32 = 0#1 := congrArg BitVec.ofBool hs
      rw [hz] at h
      exact absurd (h.symm.trans (BitVec.zero_and)) (by decide)
  have h1 : w.slt 1000000#32 = true := by
    cases hs : w.slt 1000000#32 with
    | true => rfl
    | false =>
      have hz : IntOp.cmpi .slt w 1000000#32 = 0#1 := congrArg BitVec.ofBool hs
      rw [hz] at h
      exact absurd (h.symm.trans (BitVec.and_zero)) (by decide)
  have e0 : (0 : Int) ≤ w.toInt := by simpa [BitVec.sle] using h0
  have e1 : w.toInt < 1000000 := by simpa [BitVec.slt] using h1
  rw [BitVec.toInt_eq_toNat_cond] at e0 e1
  have := w.isLt
  split at e0 <;> omega

variable {F : FTy → Type} [FloatOps F]

/-- Under the precondition every index word is a row number of the data. -/
theorem words_in_range [Cert.Pre_in_range.Facts] (x : FVec F Cert.Pre_in_range.S1000000x64 .f32)
    (g : IVec Cert.Pre_in_range.S16384x1 32) (u : FVec F Cert.Pre_in_range.S16384x64 .f32)
    (h : Cert.Pre_in_range.fn x g u = fun _ => 1#1) (i : Cert.Pre_in_range.S16384x1.Idx) : (g i).toNat < 1000000 :=
  word_small (g i) (congrFun h i)

/-- So is the row of every update. -/
theorem rows_in_range [Cert.Pre_in_range.Facts] (x : FVec F Cert.Pre_in_range.S1000000x64 .f32)
    (g : IVec Cert.Pre_in_range.S16384x1 32) (u : FVec F Cert.Pre_in_range.S16384x64 .f32)
    (h : Cert.Pre_in_range.fn x g u = fun _ => 1#1) (b : ℕ) : rowOf g b < 1000000 := by
  unfold rowOf at2
  split
  · exact words_in_range x g u h _
  · exact Nat.succ_pos _

end Cert.Scatter

end
-- ==== Proof.Lanes.lean ====
/-
  One column of a tile replaced by one column of another.

  A block of 32768 columns is held as 256 tiles of 128 lanes, an update's column likewise as one lane of a tile. The kernel
  moves an update by rotating its tile until the update's lane is lane 0, spreading lane 0 over all lanes and selecting by
  the lane's number. Here that payload, and the load and the store of a tile, are read element by element.
-/
module

public import Idealize.ShloMosaic.Lib.KernelVsHost
public import Idealize.ShloMosaic.Lib.Pipeline.Value
public import proofs.«01_k».proof.Proof.Words

@[expose] public section

noncomputable section

namespace Cert.Scatter

open Idealize.ShloMosaic

/-- An index of an array of tiles. -/
def ix3 {m n p : ℕ} (i : Fin m) (j : Fin n) (k : Fin p) : (⟨3, ![m, n, p]⟩ : Shape).Idx :=
  fun a => match a with | 0 => i | 1 => j | 2 => k

theorem ix3_ext {m n p : ℕ} {x y : (⟨3, ![m, n, p]⟩ : Shape).Idx} (h0 : (x 0).val = (y 0).val) (h1 : (x 1).val = (y 1).val)
    (h2 : (x 2).val = (y 2).val) : x = y :=
  funext fun a => Fin.ext (match a with | 0 => h0 | 1 => h1 | 2 => h2)

section Payload

variable {α : Type}

/-- Rotating by minus `r` brings lane `r` to lane 0. -/
theorem rotate_lane (sh : BitVec 32) (r : ℕ) (hr : r < 128) (hsh : sh.toNat = r) :
    (0 + 128 - (Scalar.subi 0#32 sh).toNat % 128) % 128 = r := by
  have e : (Scalar.subi 0#32 sh).toNat = (2 ^ 32 - r) % 2 ^ 32 := by
    subst hsh
    unfold Scalar.subi IntOp.subi
    rw [BitVec.toNat_sub]
    simp
  rw [e]
  omega

theorem shift_lane (V : (⟨3, ![1, 64, 128]⟩ : Shape).Idx → α) (sh : BitVec 32) (r : Fin 128) (hsh : sh.toNat = r.val)
    (h1 : (⟨3, ![1, 64, 128]⟩ : Shape).ShapeCasts ⟨2, ![64, 128]⟩) (hr : (⟨2, ![64, 128]⟩ : Shape).Rotates 1 none)
    (hs : (⟨2, ![64, 128]⟩ : Shape).Slices ![0, 0] ⟨2, ![64, 1]⟩) (h2 : (⟨2, ![64, 1]⟩ : Shape).ShapeCasts ⟨2, ![64, 1]⟩)
    (hb : (⟨2, ![64, 1]⟩ : Shape).Broadcasts ⟨2, ![64, 128]⟩) (j : (⟨2, ![64, 128]⟩ : Shape).Idx) :
    broadcastTo ⟨2, ![64, 128]⟩ (shapeCast ⟨2, ![64, 1]⟩ (extractStridedSlice ⟨2, ![64, 1]⟩ ![0, 0]
      (dynamicRotate 1 (Scalar.subi 0#32 sh) none (shapeCast ⟨2, ![64, 128]⟩ V h1) hr) hs) h2) hb j = V (ix3 0 (j 0) r) := by
  rw [shapeCast_self]
  unfold broadcastTo extractStridedSlice
  dsimp only
  rw [dynamicRotate_apply 1 _ _ hr _ (ix2 (j 0).val r.val (j 0).isLt r.isLt) ?_]
  · rw [shapeCast_dropUnit_apply ![64, 128] V]
    refine congrArg V (ix3_ext rfl rfl rfl)
  · intro b
    match b with
    | 0 => simp [ix2]
    | 1 =>
      have := rotate_lane sh r.val r.isLt hsh
      simpa [ix2] using this.symm

/-- The payload of a column's move: the update's lane `r` at lane `lane`, what was there at the others. -/
theorem lanePut_apply (V W : (⟨3, ![1, 64, 128]⟩ : Shape).Idx → α) (lane sh : BitVec 32) (r : Fin 128) (hsh : sh.toNat = r.val)
    (h1 : (⟨3, ![1, 64, 128]⟩ : Shape).ShapeCasts ⟨2, ![64, 128]⟩) (hr : (⟨2, ![64, 128]⟩ : Shape).Rotates 1 none)
    (hs : (⟨2, ![64, 128]⟩ : Shape).Slices ![0, 0] ⟨2, ![64, 1]⟩) (h2 : (⟨2, ![64, 1]⟩ : Shape).ShapeCasts ⟨2, ![64, 1]⟩)
    (hb : (⟨2, ![64, 1]⟩ : Shape).Broadcasts ⟨2, ![64, 128]⟩) (hi : (⟨2, ![64, 128]⟩ : Shape).Iotas .tc 32 [1])
    (h3 : (⟨2, ![64, 128]⟩ : Shape).ShapeCasts ⟨3, ![1, 64, 128]⟩) (x : (⟨3, ![1, 64, 128]⟩ : Shape).Idx) :
    shapeCast ⟨3, ![1, 64, 128]⟩ (select (cmpi .eq (iota .tc ⟨2, ![64, 128]⟩ 32 [1] hi) (broadcast ⟨2, ![64, 128]⟩ lane))
      (broadcastTo ⟨2, ![64, 128]⟩ (shapeCast ⟨2, ![64, 1]⟩ (extractStridedSlice ⟨2, ![64, 1]⟩ ![0, 0]
        (dynamicRotate 1 (Scalar.subi 0#32 sh) none (shapeCast ⟨2, ![64, 128]⟩ V h1) hr) hs) h2) hb)
      (shapeCast ⟨2, ![64, 128]⟩ W h1)) h3 x
      = if lane.toNat = (x 2).val then V (ix3 0 (x 1) r) else W x := by
  set j : (⟨2, ![64, 128]⟩ : Shape).Idx := ix2 (x 1).val (x 2).val (x 1).isLt (x 2).isLt with hj
  refine (shapeCast_addUnit_apply ![64, 128] _ h3 x).trans ((congrArg _
    (show (fun a : Fin 2 => x a.succ) = j from funext fun a => match a with | 0 => rfl | 1 => rfl)).trans ?_)
  have h2' : (x 2).val < 128 := (x 2).isLt
  have hc : cmpi .eq (iota .tc ⟨2, ![64, 128]⟩ 32 [1] hi) (broadcast ⟨2, ![64, 128]⟩ lane) j = 1#1 ↔ lane.toNat = (x 2).val := by
    show IntOp.cmpi .eq (iota .tc ⟨2, ![64, 128]⟩ 32 [1] hi j) lane = 1#1 ↔ _
    rw [iota_single_apply, WordCmp.cmpi_eq_eq_toNat, WordCmp.ofBool_decide_eq_one_iff, BitVec.toNat_ofNat]
    rw [Nat.mod_eq_of_lt (show (j 1).val < 2 ^ 32 from Nat.lt_trans h2' (by decide))]
    exact eq_comm
  by_cases h : lane.toNat = (x 2).val
  · rw [if_pos h]
    refine (if_pos (hc.2 h)).trans ?_
    exact shift_lane V sh r hsh h1 hr hs h2 hb j
  · rw [if_neg h]
    refine (if_neg fun e => h (hc.1 e)).trans ?_
    refine (shapeCast_dropUnit_apply ![64, 128] W h1 j).trans (congrArg W (ix3_ext ?_ rfl rfl))
    have : (x 0).val < 1 := (x 0).isLt
    show 0 = (x 0).val
    omega

end Payload

section Tile

variable {sig : RefSig} {κ : Kind} {sp : Space} {F : FTy → Type}

/-- A tile loaded: its element at the tile's number. -/
theorem tile_load {m : ℕ} (v : View sig κ sp (⟨3, ![m, 64, 128]⟩ : Shape) .f32) (f : v.ty.Contents (Elt F)) {off size : Fin 3 → ℕ}
    (inb : ∀ a, off a + size a ≤ (⟨3, ![m, 64, 128]⟩ : Shape).size a)
    (x : (Rect.unit (s := ⟨3, ![m, 64, 128]⟩) off size inb).toLoadRect.shape.Idx) (y : (⟨3, ![m, 64, 128]⟩ : Shape).Idx)
    (t : ℕ) (ho : off = ![t, 0, 0]) (hs : size 0 = 1) (h0 : (y 0).val = t) (h1 : (y 1).val = (x 1).val) (h2 : (y 2).val = (x 2).val) :
    v.readAt (Elt F) (Rect.unit (s := ⟨3, ![m, 64, 128]⟩) off size inb).toLoadRect f x = v.read (Elt F) f y := by
  subst ho
  rw [View.readAt_apply]
  refine congrArg _ (ix3_ext ?_ ?_ ?_)
  · show t + 1 * (x 0).val = (y 0).val
    have : (x 0).val < size 0 := (x 0).isLt
    omega
  · show 0 + 1 * (x 1).val = (y 1).val
    omega
  · show 0 + 1 * (x 2).val = (y 2).val
    omega

/-- A tile stored: its elements at the tile's number, the rest as it was. -/
theorem tile_store {m : ℕ} (v : View sig κ sp (⟨3, ![m, 64, 128]⟩ : Shape) .f32) (f : v.ty.Contents (Elt F)) {off : Fin 3 → ℕ}
    (inb : ∀ a, off a + (![1, 64, 128] : Fin 3 → ℕ) a ≤ (⟨3, ![m, 64, 128]⟩ : Shape).size a)
    (w : (Rect.unit (s := ⟨3, ![m, 64, 128]⟩) off ![1, 64, 128] inb).shape.Idx → Elt F .f32)
    (L : List (View.Piece (Elt F) ⟨3, ![m, 64, 128]⟩ .f32)) (t : ℕ) (ho : off = ![t, 0, 0]) (y : (⟨3, ![m, 64, 128]⟩ : Shape).Idx) :
    v.read (Elt F) (v.writes (Elt F) f (⟨Rect.unit (s := ⟨3, ![m, 64, 128]⟩) off ![1, 64, 128] inb, w⟩ :: L)) y
      = if (y 0).val = t then w (ix3 (m := 1) 0 (y 1) (y 2)) else v.read (Elt F) (v.writes (Elt F) f L) y := by
  by_cases h : (y 0).val = t
  · rw [if_pos h]
    refine View.read_writes_cons_unit_of_mem v f inb w L y (ix3 (m := 1) 0 (y 1) (y 2)) ho fun a => ?_
    match a with
    | 0 => show (y 0).val = t + 0; omega
    | 1 => show (y 1).val = 0 + (y 1).val; omega
    | 2 => show (y 2).val = 0 + (y 2).val; omega
  · rw [if_neg h]
    refine View.read_writes_cons_unit_of_not_mem v f inb w L y ho 0 ?_
    show (y 0).val < t ∨ t + 1 ≤ (y 0).val
    omega

/-- Update `b`'s value at row `d`: lane `b % 128` of tile `b / 128`. -/
def upd {α : Type} (U : (⟨3, ![128, 64, 128]⟩ : Shape).Idx → α) (b : ℕ) (d : Fin 64) : α :=
  U (ix3 ⟨b / 128 % 128, Nat.mod_lt _ (by decide)⟩ d ⟨b % 128, Nat.mod_lt _ (by decide)⟩)

/-- Update `b`'s column put at lane `lane` of tile `t`: what the array of tiles then holds. -/
theorem put_read (v3 : View sig κ sp (⟨3, ![128, 64, 128]⟩ : Shape) .f32) (f3 : v3.ty.Contents (Elt F))
    (v5 : View sig κ sp (⟨3, ![256, 64, 128]⟩ : Shape) .f32) (f5 : v5.ty.Contents (Elt F)) {off3 off5 : Fin 3 → ℕ}
    (inb3 : ∀ a, off3 a + (![1, 64, 128] : Fin 3 → ℕ) a ≤ (⟨3, ![128, 64, 128]⟩ : Shape).size a)
    (inb5 : ∀ a, off5 a + (![1, 64, 128] : Fin 3 → ℕ) a ≤ (⟨3, ![256, 64, 128]⟩ : Shape).size a)
    (w : (Rect.unit (s := ⟨3, ![256, 64, 128]⟩) off5 ![1, 64, 128] inb5).shape.Idx → Elt F .f32)
    (b t lane : ℕ) (hb : b < 16384) (ho3 : off3 = ![b / 128, 0, 0]) (ho5 : off5 = ![t, 0, 0])
    (hw : ∀ x : (⟨3, ![1, 64, 128]⟩ : Shape).Idx, w x = if lane = (x 2).val then
        v3.readAt (Elt F) (Rect.unit (s := ⟨3, ![128, 64, 128]⟩) off3 ![1, 64, 128] inb3).toLoadRect f3
          (ix3 (m := 1) 0 (x 1) ⟨b % 128, Nat.mod_lt _ (by decide)⟩)
      else v5.readAt (Elt F) (Rect.unit (s := ⟨3, ![256, 64, 128]⟩) off5 ![1, 64, 128] inb5).toLoadRect f5 x)
    (y : (⟨3, ![256, 64, 128]⟩ : Shape).Idx) :
    v5.read (Elt F) (v5.writes (Elt F) f5 [⟨Rect.unit (s := ⟨3, ![256, 64, 128]⟩) off5 ![1, 64, 128] inb5, w⟩]) y
      = if (y 0).val = t ∧ lane = (y 2).val then upd (v3.read (Elt F) f3) b (y 1) else v5.read (Elt F) f5 y := by
  refine (tile_store v5 f5 inb5 w [] t ho5 y).trans ?_
  by_cases h : (y 0).val = t
  · rw [if_pos h, hw]
    by_cases h' : lane = (y 2).val
    · rw [if_pos (show lane = ((ix3 (m := 1) 0 (y 1) (y 2) : (⟨3, ![1, 64, 128]⟩ : Shape).Idx) 2).val from h'), if_pos ⟨h, h'⟩]
      exact tile_load v3 f3 inb3 _ _ (b / 128) ho3 rfl (Nat.mod_eq_of_lt (by omega)) rfl rfl
    · rw [if_neg (show ¬ lane = ((ix3 (m := 1) 0 (y 1) (y 2) : (⟨3, ![1, 64, 128]⟩ : Shape).Idx) 2).val from h'), if_neg fun e => h' e.2]
      exact tile_load v5 f5 inb5 _ _ t ho5 rfl h rfl rfl
  · rw [if_neg h, if_neg fun e => h e.1]
    rfl

end Tile

end Cert.Scatter
-- ==== Proof.HostOps.lean ====
/-
  What the host's own operations make of the arguments, read element by element.

  Before its kernel the program flattens the index words, turns the data on its side and cuts the updates into tiles of 128,
  each on its side; after it, it turns the result back. The reference wraps negative index words, of which there are none.
-/
module

public import Idealize.ShloMosaic.Lib.KernelVsHost
public import Idealize.ShloMosaic.Lib.Pipeline.Value
public import Idealize.ShloMosaic.Lib.Routing.OpsPair
public import Idealize.ShloMosaic.Lib.IdealHost
public import proofs.«01_k».proof.Proof.Lanes
public import proofs.«01_k».proof.Proof.Scattered

@[expose] public section

noncomputable section

namespace Cert.Scatter

open Idealize.ShloMosaic

variable {α : Type}

/-- The index words flattened, at `b`: the row update `b` goes to. -/
theorem flat_row (g : (⟨2, ![16384, 1]⟩ : Shape).Idx → BitVec 32) (h : (⟨2, ![16384, 1]⟩ : Shape).ShapeCasts ⟨1, ![16384]⟩) (b : ℕ) :
    at1 (shapeCast ⟨1, ![16384]⟩ g h) b = rowOf g b := by
  unfold rowOf at1 at2
  by_cases hb : b < 16384
  · rw [dif_pos hb, dif_pos ⟨hb, by decide⟩]
    refine congrArg BitVec.toNat (shapeCast_apply g h _ _ ?_)
    rw [Shape.rowMajor_val_two, Shape.rowMajor_val_one]
    show b * 1 + 0 = b
    omega
  · rw [dif_neg hb, dif_neg fun h => hb h.1]

/-- The updates cut into tiles of 128, each on its side: update `b`'s value for column `d`. -/
theorem tiles_given (u : (⟨2, ![16384, 64]⟩ : Shape).Idx → α) (h : (⟨2, ![16384, 64]⟩ : Shape).ShapeCasts ⟨3, ![128, 128, 64]⟩)
    (h' : (⟨3, ![128, 128, 64]⟩ : Shape).Transposes [0, 2, 1] ⟨3, ![128, 64, 128]⟩) (b : ℕ) (d : Fin 64) :
    upd (transpose ⟨3, ![128, 64, 128]⟩ [0, 2, 1] (shapeCast ⟨3, ![128, 128, 64]⟩ u h) h') b d = given u b d := by
  unfold upd given
  rw [transpose_apply [0, 2, 1] _ h' _ (ix3 ⟨b / 128 % 128, Nat.mod_lt _ (by decide)⟩ ⟨b % 128, Nat.mod_lt _ (by decide)⟩ d)
    (fun c => match c with | ⟨0, _⟩ => rfl | ⟨1, _⟩ => rfl | ⟨2, _⟩ => rfl)]
  refine shapeCast_apply u h _ _ ?_
  rw [Shape.rowMajor_val_two, Shape.rowMajor_val_three]
  show b % 16384 * 64 + d.val = (b / 128 % 128 * 128 + b % 128) * 64 + d.val
  omega

/-- The data on its side, changed there, and turned back. -/
theorem turned (f : (⟨2, ![64, 1000000]⟩ : Shape).Idx → α) (h : (⟨2, ![64, 1000000]⟩ : Shape).Transposes [1, 0] ⟨2, ![1000000, 64]⟩)
    (y : (⟨2, ![1000000, 64]⟩ : Shape).Idx) :
    transpose ⟨2, ![1000000, 64]⟩ [1, 0] f h y = f (ix2 (y 1).val (y 0).val (y 1).isLt (y 0).isLt) :=
  transpose_apply [1, 0] f h y _ fun c => match c with | ⟨0, _⟩ => rfl | ⟨1, _⟩ => rfl

theorem turned_in (f : (⟨2, ![1000000, 64]⟩ : Shape).Idx → α) (h : (⟨2, ![1000000, 64]⟩ : Shape).Transposes [1, 0] ⟨2, ![64, 1000000]⟩)
    (y : (⟨2, ![1000000, 64]⟩ : Shape).Idx) :
    transpose ⟨2, ![64, 1000000]⟩ [1, 0] f h (ix2 (y 1).val (y 0).val (y 1).isLt (y 0).isLt) = f y :=
  transpose_apply [1, 0] f h _ _ fun c => match c with | ⟨0, _⟩ => rfl | ⟨1, _⟩ => rfl

/-- No index word is negative, so the reference's wrapping changes none. -/
theorem wrapped (g : (⟨2, ![16384, 1]⟩ : Shape).Idx → BitVec 32) (z a : (⟨1, ![16384]⟩ : Shape).Idx → BitVec 32) (hz : ∀ i, z i = 0#32)
    (h : (⟨2, ![16384, 1]⟩ : Shape).ShapeCasts ⟨1, ![16384]⟩) (hb : (⟨1, ![16384]⟩ : Shape).BroadcastsInDim ⟨2, ![16384, 1]⟩ ![0])
    (hg : ∀ i, (g i).toNat < 2 ^ 31) :
    broadcastInDim ⟨2, ![16384, 1]⟩ ![0] hb
      (select (cmpi .slt (shapeCast ⟨1, ![16384]⟩ g h) z) a (shapeCast ⟨1, ![16384]⟩ g h)) = g := by
  funext i
  have h0 : (i 0).val < 16384 := (i 0).isLt
  have h1 : (i 1).val < 1 := (i 1).isLt
  rw [broadcastInDim_apply ![0] hb _ i (ix1 (i 0).val h0) (fun b => by
    obtain rfl : b = 0 := Subsingleton.elim _ _
    rfl)]
  have e : shapeCast ⟨1, ![16384]⟩ g h (ix1 (i 0).val h0) = g i := by
    refine shapeCast_apply g h _ _ ?_
    rw [Shape.rowMajor_val_two, Shape.rowMajor_val_one]
    show (i 0).val * 1 + (i 1).val = (i 0).val
    omega
  show Scalar.select (IntOp.cmpi .slt (shapeCast ⟨1, ![16384]⟩ g h (ix1 (i 0).val h0)) (z (ix1 (i 0).val h0))) (a (ix1 (i 0).val h0))
    (shapeCast ⟨1, ![16384]⟩ g h (ix1 (i 0).val h0)) = g i
  rw [e, hz]
  exact Routing.wrap_of_lt _ _ (hg i)

end Cert.Scatter

end
-- ==== Proof.Reference.lean ====
/- What the reference computes: the data with each row's last update put in. -/
module

public import proofs.«01_k».proof.Proof.Gen.ReferenceIdeal.Run
public import proofs.«01_k».proof.Proof.HostOps

@[expose] public section

noncomputable section

namespace Cert.ReferenceIdeal.Scatter

open Cert.ReferenceIdeal Cert.ReferenceIdeal.Gen Cert.Scatter
open Idealize.ShloMosaic Idealize.ShloMosaic.TcCoe Idealize.SL.Sem

variable {F : FTy → Type} [FloatOps F]

/-- Every run of the reference ends with the data scattered and the arguments unchanged, when the index words are not negative. -/
theorem run_result (m : (ℓ : Loc nD τ sig) → Buf (Elt F) ℓ) (ρ : Dev nD → PrngReg)
    (hg : ∀ (c : Dev nD) i, (m ((c.tc : Thread nD τ).loc main_arg1) i).toNat < 2 ^ 31) :
    θ_run defs (onTc (τ := τ) (main (F := F))) ⟨m, fun _ => 0, ρ⟩ fun r => ∀ c : Dev nD,
      r.2.mem ((c.tc : Thread nD τ).loc main_v7)
        = scattered (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  refine Eq.trans (congrArg (fun i => Host.scatter scatter_S1000000x64_S16384x1_S16384x64_1_0_0_1 (fun _ b => b)
    (m ((c.tc : Thread nD τ).loc main_arg0)) i (m ((c.tc : Thread nD τ).loc main_arg2))) (wrapped _ _ _ (fun _ => rfl) _ _ (hg c))) ?_
  exact scatter_eq _ _ _ _ (hg c)

/-- The reference has no semaphore. -/
theorem no_cell : ∀ _ : SemLoc sig, False := by decide

/-- Every run of the reference ends with the arguments unchanged and every counter at zero. -/
theorem run_frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c => (h c).2, funext fun g => (no_cell g.2).elim⟩) (Value.run m ρ)

end Cert.ReferenceIdeal.Scatter

end
-- ==== Proof.Ideal.Buckets.lean ====
/-
  THE BUCKETS: the first grid point sorts the updates by the block of 32768 rows they go to.

  Each trip of the second loop files one update: in its bucket's list while that has room, in the overflow list else.
  What the five scratch memories then hold is said by `Cert.Scatter.Sorted`; here one trip of the kernel's loop is run and
  shown to take that statement from `k` updates to `k + 1` (`trip2`), and the first part of the body to establish it.
-/
module

public import proofs.«01_k».proof.Proof.Gen.KernelIdeal.Loops
public import proofs.«01_k».proof.Proof.Gen.KernelIdeal.Launch
public import Idealize.ShloMosaic.Lib.LoopRemainder
public import proofs.«01_k».proof.Proof.Words

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

abbrev pt (c : Dev nD) {sp : Space} {s : Shape} {t : EltTy} (M : Memref sig .tc sp s t) (f : BufTy.Contents (Elt F) M.view.ty) : sProp 𝕄 :=
  M.view.loc (c : Thread nD τ) ↦[M.view.set]{fullShare} f

open Cert.Scatter

/-! ## Where the words of a bucketing trip lie -/

theorem off2_val (k : Fin k0_t2_loop.trips) (hk : k.val < 16384) : k0_off2 k = ![k.val] :=
  congrArg (fun n : ℕ => (![n] : Fin 1 → ℕ)) (iv_toNat k.val (by omega))

theorem off3_val (v : BitVec 32) (h : v.toNat < 1000000) : k0_off3 v = ![v.toNat / 32768] :=
  congrArg (fun n : ℕ => (![n] : Fin 1 → ℕ)) (shrsi_toNat v 15#32 15 rfl (by decide) (by omega))

theorem off4_val (v x : BitVec 32) (h : v.toNat < 1000000) (hx : x.toNat ≤ 16384) : k0_off4 v x = ![v.toNat / 32768, min x.toNat 1024] :=
  congr (congrArg (fun n n' : ℕ => (![n, n'] : Fin 2 → ℕ)) (shrsi_toNat v 15#32 15 rfl (by decide) (by omega)))
    (minsi_toNat x 1024#32 (by omega) (by decide))

theorem off5_val (x o : BitVec 32) (hx : x.toNat ≤ 16384) : k0_off5 x o = ![if 1024 ≤ x.toNat then o.toNat else 16384] :=
  congrArg (fun n : ℕ => (![n] : Fin 1 → ℕ)) (select_toNat (cmpi_sge_iff x 1024#32 (by omega) (by decide)) o 16384#32)

theorem off6_val (v : BitVec 32) (h : v.toNat < 1000000) : k0_off6 v = ![v.toNat / 32768] := off3_val v h

theorem chk1_of (i : grid0.Coords) (v : BitVec 32) (h : v.toNat < 1000000) : k0_chk1 i v := by
  have e : ∀ a : Fin 1, k0_off3 v a + S1.size a ≤ S32.size a := by
    intro a
    rw [off3_val v h]
    match a with
    | 0 => show v.toNat / 32768 + 1 ≤ 32; omega
  exact ⟨fun _ => e, fun _ => e⟩

theorem chk2_of (i : grid0.Coords) (v x : BitVec 32) (h : v.toNat < 1000000) (hx : x.toNat ≤ 16384) : k0_chk2 i v x := by
  intro _ a
  rw [off4_val v x h hx]
  match a with
  | 0 => show v.toNat / 32768 + 1 ≤ 32; omega
  | 1 => show min x.toNat 1024 + 1 ≤ 1025; omega

theorem chk3_of (i : grid0.Coords) (x o : BitVec 32) (hx : x.toNat ≤ 16384) (ho : o.toNat ≤ 16384) : k0_chk3 i x o := by
  intro _ a
  rw [off5_val x o hx]
  match a with
  | 0 => show (if 1024 ≤ x.toNat then o.toNat else 16384) + 1 ≤ 16385; split <;> omega

theorem sorted_of_eq {w : ℕ → ℕ} {k : ℕ} {cnt cnt' : ℕ → ℕ} {lst lst' : ℕ → ℕ → ℕ} {ovb ovb' ovc ovc' : ℕ → ℕ} {ovn ovn' : ℕ}
    (h : Sorted w k cnt lst ovb ovc ovn) (h1 : cnt' = cnt) (h2 : lst' = lst) (h3 : ovb' = ovb) (h4 : ovc' = ovc) (h5 : ovn' = ovn) :
    Sorted w k cnt' lst' ovb' ovc' ovn' := by
  subst h1 h2 h3 h4 h5
  exact h

/-- The five scratch memories of the bucketing: the buckets' words, their counts, the overflow's updates and rows, and
    the overflow's count, holding the first `k` updates sorted by bucket. -/
def tables (c : Dev nD) (w : ℕ → ℕ) (k : ℕ) (arg6 : Memref sig .tc .smem S32x1025 .i32) (arg7 : Memref sig .tc .smem S32 .i32)
    (arg8 : Memref sig .tc .smem S16385 .i32) (arg9 : Memref sig .tc .smem S16385 .i32) (arg10 : Memref sig .tc .smem KernelIdeal.S1 .i32) : sProp 𝕄 :=
  iprop(∃ f6 f7 f8 f9 f10, pt c arg6 f6 ∗ pt c arg7 f7 ∗ pt c arg8 f8 ∗ pt c arg9 f9 ∗ pt c arg10 f10 ∗
    ⌜Sorted w k (at1 (arg7.view.read (Elt F) f7)) (at2 (arg6.view.read (Elt F) f6)) (at1 (arg8.view.read (Elt F) f8))
      (at1 (arg9.view.read (Elt F) f9)) (at1 (arg10.view.read (Elt F) f10) 0)⌝)

/-- The same memories at any contents. -/
def anyTables (c : Dev nD) (arg6 : Memref sig .tc .smem S32x1025 .i32) (arg7 : Memref sig .tc .smem S32 .i32)
    (arg8 : Memref sig .tc .smem S16385 .i32) (arg9 : Memref sig .tc .smem S16385 .i32) (arg10 : Memref sig .tc .smem KernelIdeal.S1 .i32) : sProp 𝕄 :=
  iprop(∃ f6 f7 f8 f9 f10, pt c arg6 f6 ∗ pt c arg7 f7 ∗ pt c arg8 f8 ∗ pt c arg9 f9 ∗ pt c arg10 f10)

/-- The table `f1` of the rows the updates go to, as numbers. -/
abbrev rows (arg1 : Memref sig .tc .smem S16384 .i32) (f1 : BufTy.Contents (Elt F) arg1.view.ty) : ℕ → ℕ := at1 (arg1.view.read (Elt F) f1)

/-- One trip of the second loop files one more update. -/
theorem trip2 (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (k0_h1 : k0_cond1 i = 1#1) (k : Fin k0_t2_loop.trips)
    (f1 : BufTy.Contents (Elt F) arg1.view.ty) (f6 : BufTy.Contents (Elt F) arg6.view.ty) (f7 : BufTy.Contents (Elt F) arg7.view.ty)
    (f8 : BufTy.Contents (Elt F) arg8.view.ty) (f9 : BufTy.Contents (Elt F) arg9.view.ty) (f10 : BufTy.Contents (Elt F) arg10.view.ty)
    (hw : ∀ b, at1 (arg1.view.read (Elt F) f1) b < 1000000)
    (hS : Sorted (at1 (arg1.view.read (Elt F) f1)) k.val (at1 (arg7.view.read (Elt F) f7)) (at2 (arg6.view.read (Elt F) f6)) (at1 (arg8.view.read (Elt F) f8))
      (at1 (arg9.view.read (Elt F) f9)) (at1 (arg10.view.read (Elt F) f10) 0)) :
    iprop(pt c arg1 f1 ∗ pt c arg6 f6 ∗ pt c arg7 f7 ∗ pt c arg8 f8 ∗ pt c arg9 f9 ∗ pt c arg10 f10)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 k0_h1 k PUnit.unit) (fun _ =>
        iprop(∃ f6 f7 f8 f9 f10, pt c arg1 f1 ∗ pt c arg6 f6 ∗ pt c arg7 f7 ∗ pt c arg8 f8 ∗ pt c arg9 f9 ∗ pt c arg10 f10 ∗
          ⌜Sorted (at1 (arg1.view.read (Elt F) f1)) (k.val + 1) (at1 (arg7.view.read (Elt F) f7)) (at2 (arg6.view.read (Elt F) f6)) (at1 (arg8.view.read (Elt F) f8))
      (at1 (arg9.view.read (Elt F) f9)) (at1 (arg10.view.read (Elt F) f10) 0)⌝)) := by
  have hk : k.val < 16384 := Nat.lt_of_lt_of_le k.isLt k0_t2_abs.2.1
  have l1 : ∀ inb x, BitVec.toNat (arg1.view.readAt (Elt F) (Rect.unit (s := S16384) (k0_off2 k) S1.size inb).toLoadRect f1 x) = at1 (arg1.view.read (Elt F) f1) k.val :=
    fun inb x => at1_load arg1.view f1 inb x k.val (congrFun (off2_val k hk) 0) rfl
  have l7 : ∀ (v : BitVec 32) (hv : v.toNat < 1000000) inb x,
      BitVec.toNat (arg7.view.readAt (Elt F) (Rect.unit (s := S32) (k0_off3 v) S1.size inb).toLoadRect f7 x) = at1 (arg7.view.read (Elt F) f7) (v.toNat / 32768) :=
    fun v hv inb x => at1_load arg7.view f7 inb x _ (congrFun (off3_val v hv) 0) rfl
  have l7' : ∀ (v : BitVec 32) (hv : v.toNat < 1000000) inb x,
      BitVec.toNat (arg7.view.readAt (Elt F) (Rect.unit (s := S32) (k0_off3 v) S1.size inb).toLoadRect f7 x) ≤ 16384 := by
    intro v hv inb x
    rw [l7 v hv inb x]
    exact Nat.le_trans (hS.cnt_le _ (by omega)) (by omega)
  have l10 : ∀ inb x, BitVec.toNat (arg10.view.readAt (Elt F) (Rect.unit (s := KernelIdeal.S1) ![0] S1.size inb).toLoadRect f10 x) = at1 (arg10.view.read (Elt F) f10) 0 :=
    fun inb x => at1_load arg10.view f10 inb x 0 rfl rfl
  have l1' : ∀ inb x, BitVec.toNat (arg1.view.readAt (Elt F) (Rect.unit (s := S16384) (k0_off2 k) S1.size inb).toLoadRect f1 x) < 1000000 :=
    fun inb x => (l1 inb x).trans_lt (hw _)
  have l10' : ∀ inb x, BitVec.toNat (arg10.view.readAt (Elt F) (Rect.unit (s := KernelIdeal.S1) ![0] S1.size inb).toLoadRect f10 x) ≤ 16384 := by
    intro inb x
    rw [l10 inb x]
    exact Nat.le_trans hS.ovn_le (by omega)
  have hc : ∀ inb x inb' x', BitVec.toNat (arg7.view.readAt (Elt F) (Rect.unit (s := S32) (k0_off3
      (arg1.view.readAt (Elt F) (Rect.unit (s := S16384) (k0_off2 k) S1.size inb).toLoadRect f1 x)) S1.size inb').toLoadRect f7 x')
        = at1 (arg7.view.read (Elt F) f7) (at1 (arg1.view.read (Elt F) f1) k.val / 32768) :=
    fun inb x inb' x' => (l7 _ (l1' inb x) inb' x').trans (by rw [l1 inb x])
  have hc' : ∀ inb x inb' x', BitVec.toNat (arg7.view.readAt (Elt F) (Rect.unit (s := S32) (k0_off3
      (arg1.view.readAt (Elt F) (Rect.unit (s := S16384) (k0_off2 k) S1.size inb).toLoadRect f1 x)) S1.size inb').toLoadRect f7 x') ≤ 16384 :=
    fun inb x inb' x' => l7' _ (l1' inb x) inb' x'
  have hlt : ∀ x : BitVec 32, x.toNat ≤ 16384 → x.toNat + (1#32).toNat < 2 ^ 32 := fun x h => Nat.lt_of_le_of_lt (Nat.add_le_add_right h _) (by decide)
  have ho : ∀ (x o : BitVec 32) {cn on : ℕ}, x.toNat ≤ 16384 → x.toNat = cn → o.toNat = on → k0_off5 x o 0 = if 1024 ≤ cn then on else 16384 := by
    intro x o cn on hx e1 e2
    subst e1 e2
    exact congrFun (off5_val x o hx) 0
  have hn : ∀ (x o : BitVec 32), x.toNat ≤ 16384 → x.toNat = at1 (arg7.view.read (Elt F) f7) (at1 (arg1.view.read (Elt F) f1) k.val / 32768) →
      o.toNat = at1 (arg10.view.read (Elt F) f10) 0 →
      (Scalar.addi o (Scalar.select (Scalar.cmpi .sge x 1024#32) 1#32 0#32)).toNat
        = at1 (arg10.view.read (Elt F) f10) 0 + if 1024 ≤ at1 (arg7.view.read (Elt F) f7) (at1 (arg1.view.read (Elt F) f1) k.val / 32768) then 1 else 0 := by
    intro x o hx e1 e2
    have es := select_toNat (cmpi_sge_iff x 1024#32 (by omega) (by decide)) 1#32 0#32
    rw [← e1, ← e2]
    have hb : o.toNat ≤ 16384 := e2 ▸ Nat.le_trans hS.ovn_le (by omega)
    refine (addi_toNat _ _ ?_).trans (congrArg _ es)
    rw [es]
    split <;> simp <;> omega
  unfold k0_t2_body
  iintro ⟨H1, H6, H7, H8, H9, H10⟩
  sl_exec (disch := first
    | exact chk1_of _ _ (l1' _ _)
    | exact chk2_of _ _ _ (l1' _ _) (l7' _ (l1' _ _) _ _)
    | exact chk3_of _ _ _ (l7' _ (l1' _ _) _ _) (l10' _ _))
  sl_step
  iexists _, _, _, _, _
  isplitl [H1]; · iexact H1
  isplitl [H6]; · iexact H6
  isplitl [H7]; · iexact H7
  isplitl [H8]; · iexact H8
  isplitl [H9]; · iexact H9
  isplitl [H10]; · iexact H10
  ipureintro
  refine sorted_of_eq (hS.step hk (hw _))
    (at1_store arg7.view f7 _ _ [] (at1 (arg7.view.read (Elt F) f7) (at1 (arg1.view.read (Elt F) f1) k.val / 32768) + 1) (at1 (arg1.view.read (Elt F) f1) k.val / 32768) (fun _ => ?_) ?_ rfl)
    (at2_store arg6.view f6 _ _ [] (pack (at1 (arg1.view.read (Elt F) f1) k.val % 32768) k.val) (at1 (arg1.view.read (Elt F) f1) k.val / 32768)
      (min (at1 (arg7.view.read (Elt F) f7) (at1 (arg1.view.read (Elt F) f1) k.val / 32768)) 1024) (fun _ => ?_) ?_ ?_ rfl rfl)
    (at1_store arg8.view f8 _ _ [] k.val (if 1024 ≤ at1 (arg7.view.read (Elt F) f7) (at1 (arg1.view.read (Elt F) f1) k.val / 32768) then at1 (arg10.view.read (Elt F) f10) 0 else 16384) (fun _ => ?_) ?_ rfl)
    (at1_store arg9.view f9 _ _ [] (at1 (arg1.view.read (Elt F) f1) k.val) (if 1024 ≤ at1 (arg7.view.read (Elt F) f7) (at1 (arg1.view.read (Elt F) f1) k.val / 32768) then at1 (arg10.view.read (Elt F) f10) 0 else 16384) (fun _ => ?_) ?_ rfl)
    ((congrFun (at1_store arg10.view f10 _ _ [] (at1 (arg10.view.read (Elt F) f10) 0 + if 1024 ≤ at1 (arg7.view.read (Elt F) f7) (at1 (arg1.view.read (Elt F) f1) k.val / 32768) then 1 else 0) 0 (fun _ => ?_) rfl rfl) 0).trans (if_pos rfl))
  · exact (addi_toNat _ 1#32 (hlt _ (hc' _ _ _ _))).trans (congrArg (· + 1) (hc _ _ _ _))
  · exact (congrFun (off6_val _ (l1' _ _)) 0).trans (congrArg (· / 32768) (l1 _ _))
  · exact packed_toNat _ _ _ _ (l1 _ _) (hw _) (iv_toNat _ (by omega)) hk
  · exact (congrFun (off4_val _ _ (l1' _ _) (hc' _ _ _ _)) 0).trans (congrArg (· / 32768) (l1 _ _))
  · exact (congrFun (off4_val _ _ (l1' _ _) (hc' _ _ _ _)) 1).trans (congrArg (min · 1024) (hc _ _ _ _))
  · exact iv_toNat _ (by omega)
  · exact ho _ _ (hc' _ _ _ _) (hc _ _ _ _) (l10 _ _)
  · exact l1 _ _
  · exact ho _ _ (hc' _ _ _ _) (hc _ _ _ _) (l10 _ _)
  · exact hn _ _ (hc' _ _ _ _) (hc _ _ _ _) (l10 _ _)

/-! ## The counts set to zero -/

theorem off1_val (k : Fin k0_t1_loop.trips) (hk : k.val < 32) : k0_off1 k = ![k.val] :=
  congrArg (fun n : ℕ => (![n] : Fin 1 → ℕ)) (iv_toNat k.val (by omega))

/-- One trip of the first loop sets one more count to zero. -/
theorem trip1 (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (k0_h1 : k0_cond1 i = 1#1) (k : Fin k0_t1_loop.trips)
    (f7 : BufTy.Contents (Elt F) arg7.view.ty) (h0 : ∀ q < k.val, at1 (arg7.view.read (Elt F) f7) q = 0) :
    pt c arg7 f7 ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k0_h1 k PUnit.unit) (fun _ =>
        iprop(∃ f7, pt c arg7 f7 ∗ ⌜∀ q < k.val + 1, at1 (arg7.view.read (Elt F) f7) q = 0⌝)) := by
  have hk : k.val < 32 := Nat.lt_of_lt_of_le k.isLt k0_t1_abs.2.1
  unfold k0_t1_body
  iintro H7
  sl_exec
  sl_step
  iexists _
  isplitl [H7]; · iexact H7
  ipureintro
  intro q hq
  refine (congrFun (at1_store arg7.view f7 _ _ [] 0 k.val (fun _ => rfl) (congrFun (off1_val k hk) 0) rfl) q).trans ?_
  by_cases e : q = k.val
  · exact if_pos e
  · exact (if_neg e).trans (h0 q (by omega))

/-! ## The first part of the body: the buckets, and the first four tiles -/

/-- What the first part of the body leaves: the buckets holding all the updates, four tiles of the block copied. -/
abbrev afterPart1 (c : Dev nD) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole)
    (f1 : BufTy.Contents (Elt F) arg1.view.ty) (f2 : BufTy.Contents (Elt F) arg2.view.ty) (f5 : BufTy.Contents (Elt F) arg5.view.ty)
    (v : Σ' (arg0 : BitVec 32), FVec F S64x128 .f32) : sProp 𝕄 :=
  iprop(⌜v.1 = BitVec.ofNat 32 (i 0).val⌝
    ∗ ⌜v.2 = k0_pay7 (View.readAt (Elt F) arg2.view (Rect.unit (s := S64x32768) ![0, 512] S64x128.size inb_S64x32768_S64x128_0_512).toLoadRect f2)⌝
    ∗ pt c arg1 f1 ∗ tables c (rows arg1 f1) 16384 arg6 arg7 arg8 arg9 arg10 ∗ pt c arg2 f2
    ∗ pt c arg5 (arg5.view.writes (Elt F) f5
      [⟨Rect.unit (s := S256x64x128) ![3, 0, 0] S1x64x128.size inb_S256x64x128_S1x64x128_3_0_0, k0_pay6 (View.readAt (Elt F) arg2.view (Rect.unit (s := S64x32768) ![0, 384] S64x128.size inb_S64x32768_S64x128_0_384).toLoadRect f2)⟩,
       ⟨Rect.unit (s := S256x64x128) ![2, 0, 0] S1x64x128.size inb_S256x64x128_S1x64x128_2_0_0, k0_pay5 (View.readAt (Elt F) arg2.view (Rect.unit (s := S64x32768) ![0, 256] S64x128.size inb_S64x32768_S64x128_0_256).toLoadRect f2)⟩,
       ⟨Rect.unit (s := S256x64x128) ![1, 0, 0] S1x64x128.size inb_S256x64x128_S1x64x128_1_0_0, k0_pay4 (View.readAt (Elt F) arg2.view (Rect.unit (s := S64x32768) ![0, 128] S64x128.size inb_S64x32768_S64x128_0_128).toLoadRect f2)⟩,
       ⟨Rect.unit (s := S256x64x128) ![0, 0, 0] S1x64x128.size inb_S256x64x128_S1x64x128_0_0_0, k0_pay3 (View.readAt (Elt F) arg2.view (Rect.unit (s := S64x32768) ![0, 0] S64x128.size inb_S64x32768_S64x128_0_0).toLoadRect f2)⟩]))

/-- At the grid's later points the buckets stay as they are. -/
theorem part1_rest (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (hc : ¬ k0_cond1 i = 1#1)
    (f1 : BufTy.Contents (Elt F) arg1.view.ty) (f2 : BufTy.Contents (Elt F) arg2.view.ty) (f5 : BufTy.Contents (Elt F) arg5.view.ty) :
    iprop((pt c arg1 f1 ∗ tables c (rows arg1 f1) 16384 arg6 arg7 arg8 arg9 arg10) ∗ pt c arg2 f2 ∗ pt c arg5 f5)
      ⊢ wp frame (wpE (defs₀ (F := F)) 𝒱 (c : Thread nD τ) bd) E (k0_part1 (F := F) i arg1 harg1 arg2 harg2 arg3 harg3 arg4 harg4 arg5 harg5 arg6 harg6 arg7 harg7 arg8 harg8 arg9 harg9 arg10 harg10) (afterPart1 c i arg1 harg1 arg2 harg2 arg3 harg3 arg4 harg4 arg5 harg5 arg6 harg6 arg7 harg7 arg8 harg8 arg9 harg9 arg10 harg10 f1 f2 f5) := by
  rw [k0_part1_eq_skeleton]
  unfold k0_part1_skel
  iintro ⟨⟨H1, HT⟩, H2, H5⟩
  sl_exec
  sl_step
  isplitr; · ipureintro; rfl
  isplitr; · ipureintro; rfl
  isplitl [H1]; · iexact H1
  isplitl [HT]; · iexact HT
  isplitl [H2]; · iexact H2
  iexact H5

/-- At the grid's first point the buckets are filled. -/
theorem part1_first (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (hc : k0_cond1 i = 1#1)
    (f1 : BufTy.Contents (Elt F) arg1.view.ty) (f2 : BufTy.Contents (Elt F) arg2.view.ty) (f5 : BufTy.Contents (Elt F) arg5.view.ty)
    (hw : ∀ b, rows arg1 f1 b < 1000000) :
    iprop((pt c arg1 f1 ∗ anyTables c arg6 arg7 arg8 arg9 arg10) ∗ pt c arg2 f2 ∗ pt c arg5 f5)
      ⊢ wp frame (wpE (defs₀ (F := F)) 𝒱 (c : Thread nD τ) bd) E (k0_part1 (F := F) i arg1 harg1 arg2 harg2 arg3 harg3 arg4 harg4 arg5 harg5 arg6 harg6 arg7 harg7 arg8 harg8 arg9 harg9 arg10 harg10) (afterPart1 c i arg1 harg1 arg2 harg2 arg3 harg3 arg4 harg4 arg5 harg5 arg6 harg6 arg7 harg7 arg8 harg8 arg9 harg9 arg10 harg10 f1 f2 f5) := by
  rw [k0_part1_eq_skeleton]
  unfold k0_part1_skel anyTables
  iintro ⟨⟨H1, %f6, %f7, %f8, %f9, %f10, H6, H7, H8, H9, H10⟩, H2, H5⟩
  have hz : ∀ q < 0, at1 (arg7.view.read (Elt F) f7) q = 0 := fun q h => absurd h (by omega)
  let L1 : LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 hc :=
    { inv := fun k _ => iprop(∃ f7, pt c arg7 f7 ∗ ⌜∀ q < k, at1 (arg7.view.read (Elt F) f7) q = 0⌝)
      step := fun k _ => by
        iintro ⟨%f7, H7, %h0⟩
        iapply (trip1 𝒱 c bd E i arg1 harg1 arg2 harg2 arg3 harg3 arg4 harg4 arg5 harg5 arg6 harg6 arg7 harg7 arg8 harg8 arg9 harg9 arg10 harg10 hc k f7 h0)
        iexact H7 }
  sl_exec
  sl_for (fun k _ => iprop(pt c arg1 f1 ∗ tables c (rows arg1 f1) k arg6 arg7 arg8 arg9 arg10)) $$ [H1 H6 H7 H8 H9 H10]
  case region =>
    intro k _
    unfold tables
    iintro ⟨H1, %f6, %f7, %f8, %f9, %f10, H6, H7, H8, H9, H10, %hS⟩
    iapply (wp_wand_r Idealize.ShloMosaic.frame (wpE (defs₀ (F := F)) 𝒱 (c : Thread nD τ) bd) E)
    isplitl [H1 H6 H7 H8 H9 H10]
    · iapply (trip2 𝒱 c bd E i arg1 harg1 arg2 harg2 arg3 harg3 arg4 harg4 arg5 harg5 arg6 harg6 arg7 harg7 arg8 harg8 arg9 harg9 arg10 harg10 hc k f1 f6 f7 f8 f9 f10 hw hS)
      isplitl [H1]; · iexact H1
      isplitl [H6]; · iexact H6
      isplitl [H7]; · iexact H7
      isplitl [H8]; · iexact H8
      isplitl [H9]; · iexact H9
      iexact H10
    · iintro %_ ⟨%f6, %f7, %f8, %f9, %f10, H1, H6, H7, H8, H9, H10, %hS⟩
      isplitl [H1]; · iexact H1
      iexists f6, f7, f8, f9, f10
      isplitl [H6]; · iexact H6
      isplitl [H7]; · iexact H7
      isplitl [H8]; · iexact H8
      isplitl [H9]; · iexact H9
      isplitl [H10]; · iexact H10
      ipureintro
      exact hS
  · unfold tables
    isplitl [H1]; · iexact H1
    iexists _, _, _, _, _
    isplitl [H6]; · iexact H6
    isplitl [H7]; · iexact H7
    isplitl [H8]; · iexact H8
    isplitl [H9]; · iexact H9
    isplitl [H10]; · iexact H10
    ipureintro
    exact sorted_of_eq (Sorted.init _ _ _ _ _ fun q hq => hL1 q hq) rfl rfl rfl rfl
      ((congrFun (at1_store arg10.view _ _ _ [] 0 0 (fun _ => rfl) rfl rfl) 0).trans (if_pos rfl))
  iintro %_ ⟨H1, HT⟩
  sl_exec
  sl_step
  isplitr; · ipureintro; rfl
  isplitr; · ipureintro; rfl
  isplitl [H1]; · iexact H1
  isplitl [HT]; · iexact HT
  isplitl [H2]; · iexact H2
  iexact H5

end Cert.KernelIdeal.Merge
-- ==== Proof.Ideal.Apply.lean ====
/-
  THE UPDATES APPLIED: how one block's tiles take up the updates of its bucket.

  The third loop goes through the bucket's list, the fourth through the overflow. One trip of either puts at most one
  update's column into the tiles (`trip3`, `trip4`).
-/
module

public import proofs.«01_k».proof.Proof.Gen.KernelIdeal.Loops
public import proofs.«01_k».proof.Proof.Gen.KernelIdeal.Launch
public import Idealize.ShloMosaic.Lib.LoopRemainder
public import proofs.«01_k».proof.Proof.Lanes
public import proofs.«01_k».proof.Proof.Ideal.Buckets

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter

/-- The column of its block that an element of a tile is. -/
abbrev col (y : S256x64x128.Idx) : ℕ := 128 * (y 0).val + (y 2).val

theorem point_lt (i : grid0.Coords) : (i 0).val < 31 := (i 0).isLt

theorem point_toNat (i : grid0.Coords) : (BitVec.ofNat 32 (i 0).val).toNat = (i 0).val := by
  have := point_lt i
  rw [BitVec.toNat_ofNat]
  omega

/-! ## The words of a trip through the bucket's list -/

theorem trips3 : k0_t3_loop.trips = 1024 := by decide

theorem off7_val (i : grid0.Coords) : k0_off7 i = ![(i 0).val] :=
  congrArg (fun n : ℕ => (![n] : Fin 1 → ℕ)) (point_toNat i)

theorem off8_val (i : grid0.Coords) (k : Fin k0_t3_loop.trips) (hk : k.val < 1024) : k0_off8 i k = ![(i 0).val, k.val] := by
  have e := iv_toNat k.val (by omega)
  refine congr (congrArg (fun n n' : ℕ => (![n, n'] : Fin 2 → ℕ)) (point_toNat i)) ?_
  refine (minsi_toNat (Scf.iv 0#32 1#32 k.val) 1024#32 (by omega) (by decide)).trans ?_
  rw [e]
  show min k.val 1024 = k.val
  omega

/-- The word a trip goes by: the list's at a trip below the bucket's count, 0 at the others. -/
abbrev word3 (n k e : ℕ) : ℕ := if k < min n 1024 then e else 0

theorem live_iff (v : BitVec 32) (k : Fin k0_t3_loop.trips) (hk : k.val < 1024) (hv : v.toNat < 2 ^ 31) :
    Scalar.cmpi .slt (Scf.iv 0#32 1#32 k.val) (Scalar.minsi v 1024#32) = 1#1 ↔ k.val < min v.toNat 1024 := by
  have e := iv_toNat k.val (by omega)
  have m := minsi_toNat v 1024#32 hv (by decide)
  have m' : (Scalar.minsi v 1024#32).toNat = min v.toNat 1024 := m
  rw [cmpi_slt_iff _ _ (by omega) (by omega), e, m']

theorem sel_toNat (v : BitVec 32) (k : Fin k0_t3_loop.trips) (e : BitVec 32) (hk : k.val < 1024) (hv : v.toNat < 2 ^ 31) :
    (Scalar.select (Scalar.cmpi .slt (Scf.iv 0#32 1#32 k.val) (Scalar.minsi v 1024#32)) e 0#32).toNat = word3 v.toNat k.val e.toNat :=
  select_toNat (live_iff v k hk hv) e 0#32

theorem off9_val (v : BitVec 32) (k : Fin k0_t3_loop.trips) (e : BitVec 32) (hk : k.val < 1024) (hv : v.toNat < 2 ^ 31) :
    k0_off9 v k e = ![word3 v.toNat k.val e.toNat % 16384 / 128, 0, 0] := by
  have h := sel_toNat v k e hk hv
  have a := andi_toNat (Scalar.select (Scalar.cmpi .slt (Scf.iv 0#32 1#32 k.val) (Scalar.minsi v 1024#32)) e 0#32) 16383#32 14 rfl
  rw [h] at a
  refine congrArg (fun n : ℕ => (![n, 0, 0] : Fin 3 → ℕ)) ?_
  refine (shrsi_toNat _ 7#32 7 rfl (by decide) (by rw [a]; omega)).trans ?_
  rw [a]
  rfl

theorem off10_val (v : BitVec 32) (k : Fin k0_t3_loop.trips) (e : BitVec 32) (hk : k.val < 1024) (hv : v.toNat < 2 ^ 31)
    (he : word3 v.toNat k.val e.toNat < 2 ^ 29) :
    k0_off10 v k e = ![word3 v.toNat k.val e.toNat / 16384 / 128, 0, 0] := by
  have h := sel_toNat v k e hk hv
  have a := shrsi_toNat (Scalar.select (Scalar.cmpi .slt (Scf.iv 0#32 1#32 k.val) (Scalar.minsi v 1024#32)) e 0#32) 14#32 14 rfl (by decide)
    (by rw [h]; omega)
  rw [h] at a
  refine congrArg (fun n : ℕ => (![n, 0, 0] : Fin 3 → ℕ)) ?_
  refine (shrsi_toNat _ 7#32 7 rfl (by decide) (by rw [a]; omega)).trans ?_
  rw [a]
  rfl

theorem chk4_of (v : BitVec 32) (k : Fin k0_t3_loop.trips) (e : BitVec 32) (hk : k.val < 1024) (hv : v.toNat < 2 ^ 31)
    (he : word3 v.toNat k.val e.toNat < 2 ^ 29) : k0_chk4 v k e := by
  constructor
  · rw [off9_val v k e hk hv]
    intro a
    match a with
    | 0 => show word3 v.toNat k.val e.toNat % 16384 / 128 + 1 ≤ 128; omega
    | 1 => exact Nat.le_refl 64
    | 2 => exact Nat.le_refl 128
  · rw [off10_val v k e hk hv he]
    intro a
    match a with
    | 0 => show word3 v.toNat k.val e.toNat / 16384 / 128 + 1 ≤ 256; omega
    | 1 => exact Nat.le_refl 64
    | 2 => exact Nat.le_refl 128

theorem pay285_apply (v : BitVec 32) (k : Fin k0_t3_loop.trips) (e : BitVec 32) (hk : k.val < 1024) (hv : v.toNat < 2 ^ 31)
    (he : word3 v.toNat k.val e.toNat < 2 ^ 29) (V W : Vec F S1x64x128 .f32) (x : S1x64x128.Idx) :
    k0_pay285 v k e V W x
      = if (if k.val < min v.toNat 1024 then word3 v.toNat k.val e.toNat / 16384 % 128 else 128) = (x 2).val
        then V (ix3 (m := 1) 0 (x 1) ⟨word3 v.toNat k.val e.toNat % 16384 % 128, Nat.mod_lt _ (by decide)⟩) else W x := by
  have h := sel_toNat v k e hk hv
  have a := andi_toNat (Scalar.select (Scalar.cmpi .slt (Scf.iv 0#32 1#32 k.val) (Scalar.minsi v 1024#32)) e 0#32) 16383#32 14 rfl
  have b := andi_toNat (Scalar.andi (Scalar.select (Scalar.cmpi .slt (Scf.iv 0#32 1#32 k.val) (Scalar.minsi v 1024#32)) e 0#32) 16383#32) 127#32 7 rfl
  have s := shrsi_toNat (Scalar.select (Scalar.cmpi .slt (Scf.iv 0#32 1#32 k.val) (Scalar.minsi v 1024#32)) e 0#32) 14#32 14 rfl (by decide)
    (by rw [h]; omega)
  have c := andi_toNat (Scalar.shrsi (Scalar.select (Scalar.cmpi .slt (Scf.iv 0#32 1#32 k.val) (Scalar.minsi v 1024#32)) e 0#32) 14#32) 127#32 7 rfl
  have l := select_toNat (live_iff v k hk hv) (Scalar.andi (Scalar.shrsi (Scalar.select (Scalar.cmpi .slt (Scf.iv 0#32 1#32 k.val)
    (Scalar.minsi v 1024#32)) e 0#32) 14#32) 127#32) 128#32
  rw [h] at a s
  rw [a] at b
  rw [s] at c
  rw [c] at l
  have l' : _ = if k.val < min v.toNat 1024 then word3 v.toNat k.val e.toNat / 16384 % 128 else 128 := l
  rw [← l']
  exact lanePut_apply V W _ _ ⟨word3 v.toNat k.val e.toNat % 16384 % 128, Nat.mod_lt _ (by decide)⟩ b _ _ _ _ _ _ _ x

/-- One trip through the bucket's list puts the list's update into its column, at a trip below the bucket's count. -/
theorem trip3 (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (arg0 : BitVec 32) (v1279 : FVec F S64x128 .f32)
    (v1280 : Vec F S1x64x128 .f32) (v1285 : Elt F .i32) (k : Fin k0_t3_loop.trips)
    (f3 : BufTy.Contents (Elt F) arg3.view.ty) (f5 : BufTy.Contents (Elt F) arg5.view.ty) (f6 : BufTy.Contents (Elt F) arg6.view.ty) (cn : ℕ)
    (hv : BitVec.toNat v1285 = cn) (hcn : cn ≤ 16384)
    (hl : ∀ j < min cn 1024, at2 (arg6.view.read (Elt F) f6) (i 0).val j < 2 ^ 29) :
    iprop(pt c arg3 f3 ∗ pt c arg5 f5 ∗ pt c arg6 f6)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg0 v1279 v1280 v1285 k PUnit.unit) (fun _ =>
        iprop(∃ f5', pt c arg3 f3 ∗ pt c arg5 f5' ∗ pt c arg6 f6 ∗
          ⌜∀ y, arg5.view.read (Elt F) f5' y
            = if k.val < min cn 1024 ∧ at2 (arg6.view.read (Elt F) f6) (i 0).val k.val / 16384 = col y
              then upd (arg3.view.read (Elt F) f3) (at2 (arg6.view.read (Elt F) f6) (i 0).val k.val % 16384) (y 1)
              else arg5.view.read (Elt F) f5 y⌝)) := by
  have hk : k.val < 1024 := Nat.lt_of_lt_of_le k.isLt (Nat.le_of_eq trips3)
  have hv' : BitVec.toNat v1285 < 2 ^ 31 := by omega
  have l6 : ∀ inb x, BitVec.toNat (arg6.view.readAt (Elt F) (Rect.unit (s := S32x1025) (k0_off8 i k) S1x1.size inb).toLoadRect f6 x)
      = at2 (arg6.view.read (Elt F) f6) (i 0).val k.val :=
    fun inb x => at2_load arg6.view f6 inb x _ _ (congrFun (off8_val i k hk) 0) (congrFun (off8_val i k hk) 1) rfl rfl
  have hw : ∀ e : ℕ, e = at2 (arg6.view.read (Elt F) f6) (i 0).val k.val → word3 (BitVec.toNat v1285) k.val e < 2 ^ 29 := by
    intro e he
    unfold word3
    split
    · rw [he]; exact hl _ (by omega)
    · decide
  unfold k0_t3_body
  iintro ⟨H3, H5, H6⟩
  sl_exec (disch := exact chk4_of _ _ _ hk hv' (hw _ (l6 _ _)))
  sl_step
  iexists _
  isplitl [H3]; · iexact H3
  isplitl [H5]; · iexact H5
  isplitl [H6]; · iexact H6
  ipureintro
  intro y
  refine (put_read arg3.view f3 arg5.view f5 _ _ _ _ _ _ (Nat.mod_lt _ (by decide)) (off9_val _ _ _ hk hv')
    (off10_val _ _ _ hk hv' (hw _ (l6 _ _))) (pay285_apply _ _ _ hk hv' (hw _ (l6 _ _)) _ _) y).trans ?_
  have hy2 : (y 2).val < 128 := (y 2).isLt
  rw [show BitVec.toNat _ = _ from l6 _ _, hv]
  by_cases hlive : k.val < min cn 1024
  · rw [if_pos hlive]
    have e : word3 cn k.val (at2 (arg6.view.read (Elt F) f6) (i 0).val k.val) = at2 (arg6.view.read (Elt F) f6) (i 0).val k.val := if_pos hlive
    rw [e]
    refine if_congr ?_ rfl rfl
    unfold col
    omega
  · rw [if_neg hlive, if_neg (by omega), if_neg fun h => hlive h.1]

/-! ## The words of a trip through the overflow -/

theorem chk5_aux (v : BitVec 32) : Scalar.addi 0#32 (Scalar.muli (Scalar.divsi (Scalar.subi v 0#32) 1#32) 1#32) = v := by
  rw [Scalar.muli_divsi_one]
  simp [Scalar.addi, Scalar.subi, IntOp.addi, IntOp.subi]

theorem trips4 (v : BitVec 32) (hv : v.toNat ≤ 16384) : (k0_t4_loop v).trips = v.toNat := by
  show Scf.trips 0#32 (Scalar.addi 0#32 (Scalar.muli (Scalar.divsi (Scalar.subi v 0#32) 1#32) 1#32)) 1#32 = v.toNat
  rw [chk5_aux]
  have h1 : (1#32 : BitVec 32).toInt = 1 := by decide
  have h0 : (0#32 : BitVec 32).toInt = 0 := by decide
  unfold Scf.trips
  rw [h1, h0, BitVec.toInt_eq_toNat_of_lt (by omega)]
  omega

theorem off11_val (v : BitVec 32) (k : Fin (k0_t4_loop v).trips) (hk : k.val < 16384) : k0_off11 v k = ![k.val] :=
  congrArg (fun n : ℕ => (![n] : Fin 1 → ℕ)) (iv_toNat k.val (by omega))

theorem off12_val (v : BitVec 32) (k : Fin (k0_t4_loop v).trips) (hk : k.val < 16384) : k0_off12 v k = ![k.val] :=
  congrArg (fun n : ℕ => (![n] : Fin 1 → ℕ)) (iv_toNat k.val (by omega))

theorem chk5_of (v : BitVec 32) (hv : v.toNat ≤ 16384) : k0_chk5 v := by
  refine ⟨?_, ?_, ?_, ?_⟩
  · have h := trips4 v hv
    have h1 : (1#32 : BitVec 32).toInt = 1 := by decide
    have h0 : (0#32 : BitVec 32).toInt = 0 := by decide
    refine ⟨show 0 < (1#32 : BitVec 32).toInt by decide, ?_⟩
    show (0#32 : BitVec 32).toInt + ((k0_t4_loop v).trips : ℤ) * (1#32 : BitVec 32).toInt < 2 ^ (32 - 1)
    rw [h, h1, h0]
    omega
  · intro k a
    have hk : k.val < 16384 := Nat.lt_of_lt_of_le k.isLt ((trips4 v hv).trans_le hv)
    rw [off11_val v k hk]
    match a with
    | 0 => show k.val + 1 ≤ 16385; omega
  · exact Scf.rem_ok 0#32 _
  · exact fun k => (Scf.rem_no_trip 0#32 _ k).elim

theorem cond2_iff (i : grid0.Coords) (v : BitVec 32) (hv : v.toNat < 1000000) : k0_cond2 i v = 1#1 ↔ v.toNat / 32768 = (i 0).val := by
  refine (ne_extui_iff _).trans ((cmpi_eq_iff _ _).trans ?_)
  rw [shrsi_toNat v 15#32 15 rfl (by decide) (by omega), point_toNat]
  rfl

theorem local_toNat (i : grid0.Coords) (v : BitVec 32) (hv : v.toNat < 1000000) (h : v.toNat / 32768 = (i 0).val) :
    (Scalar.subi v (Scalar.shli (BitVec.ofNat 32 (i 0).val) 15#32)).toNat = v.toNat % 32768 := by
  have hi := point_lt i
  have s := shli_toNat (BitVec.ofNat 32 (i 0).val) 15#32 15 rfl (by decide) (by rw [point_toNat]; omega)
  rw [point_toNat] at s
  rw [subi_toNat _ _ (by rw [s]; omega), s]
  omega

theorem off13_val (b : BitVec 32) (hb : b.toNat < 16384) : k0_off13 b = ![b.toNat / 128, 0, 0] :=
  congrArg (fun n : ℕ => (![n, 0, 0] : Fin 3 → ℕ)) (shrsi_toNat b 7#32 7 rfl (by decide) (by omega))

theorem off14_val (i : grid0.Coords) (v : BitVec 32) (hv : v.toNat < 1000000) (h : v.toNat / 32768 = (i 0).val) :
    k0_off14 i v = ![v.toNat % 32768 / 128, 0, 0] := by
  have e := local_toNat i v hv h
  refine congrArg (fun n : ℕ => (![n, 0, 0] : Fin 3 → ℕ)) ?_
  refine (shrsi_toNat _ 7#32 7 rfl (by decide) (by rw [e]; omega)).trans ?_
  rw [e]
  rfl

theorem chk6_of (i : grid0.Coords) (n : BitVec 32) (k : Fin (k0_t4_loop n).trips) (v : BitVec 32) (hk : k.val < 16384)
    (hv : v.toNat < 1000000) : k0_chk6 i n k v := by
  constructor
  · intro _ a
    rw [off12_val n k hk]
    match a with
    | 0 => show k.val + 1 ≤ 16385; omega
  · intro h a
    rw [off14_val i v hv ((cond2_iff i v hv).1 h)]
    match a with
    | 0 => show v.toNat % 32768 / 128 + 1 ≤ 256; omega
    | 1 => exact Nat.le_refl 64
    | 2 => exact Nat.le_refl 128

theorem chk7_of (i : grid0.Coords) (v b : BitVec 32) (hb : b.toNat < 16384) : k0_chk7 i v b := by
  intro _ a
  rw [off13_val b hb]
  match a with
  | 0 => show b.toNat / 128 + 1 ≤ 128; omega
  | 1 => exact Nat.le_refl 64
  | 2 => exact Nat.le_refl 128

theorem pay286_apply (i : grid0.Coords) (arg0 : BitVec 32) (harg0 : arg0 = BitVec.ofNat 32 (i 0).val) (v b : BitVec 32)
    (hv : v.toNat < 1000000) (h : v.toNat / 32768 = (i 0).val) (V W : Vec F S1x64x128 .f32) (x : S1x64x128.Idx) :
    k0_pay286 arg0 v b V W x
      = if v.toNat % 32768 % 128 = (x 2).val then V (ix3 (m := 1) 0 (x 1) ⟨b.toNat % 128, Nat.mod_lt _ (by decide)⟩) else W x := by
  subst harg0
  have l := andi_toNat (Scalar.subi v (Scalar.shli (BitVec.ofNat 32 (i 0).val) 15#32)) 127#32 7 rfl
  rw [local_toNat i v hv h] at l
  have l' : _ = v.toNat % 32768 % 128 := l
  rw [← l']
  exact lanePut_apply V W _ _ ⟨b.toNat % 128, Nat.mod_lt _ (by decide)⟩ (andi_toNat b 127#32 7 rfl) _ _ _ _ _ _ _ x

/-- One trip through the overflow puts the overflow's update into its column, where it goes to this block. -/
theorem trip4 (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (arg0 : BitVec 32) (harg0 : arg0 = BitVec.ofNat 32 (i 0).val)
    (v1279 : FVec F S64x128 .f32) (v1280 : Vec F S1x64x128 .f32) (v1288 : Elt F .i32) (k0_hw5 : k0_chk5 v1288) (k : Fin (k0_t4_loop v1288).trips)
    (acc : BitVec 32)
    (f3 : BufTy.Contents (Elt F) arg3.view.ty) (f5 : BufTy.Contents (Elt F) arg5.view.ty) (f8 : BufTy.Contents (Elt F) arg8.view.ty)
    (f9 : BufTy.Contents (Elt F) arg9.view.ty) (hk : k.val < 16384)
    (hb : at1 (arg8.view.read (Elt F) f8) k.val < 16384) (hr : at1 (arg9.view.read (Elt F) f9) k.val < 1000000) :
    iprop(pt c arg3 f3 ∗ pt c arg5 f5 ∗ pt c arg8 f8 ∗ pt c arg9 f9)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg0 v1279 v1280 v1288 k0_hw5 k acc) (fun _ =>
        iprop(∃ f5', pt c arg3 f3 ∗ pt c arg5 f5' ∗ pt c arg8 f8 ∗ pt c arg9 f9 ∗
          ⌜∀ y, arg5.view.read (Elt F) f5' y
            = if at1 (arg9.view.read (Elt F) f9) k.val = (i 0).val * 32768 + col y
              then upd (arg3.view.read (Elt F) f3) (at1 (arg8.view.read (Elt F) f8) k.val) (y 1)
              else arg5.view.read (Elt F) f5 y⌝)) := by
  have l9 : ∀ inb x, BitVec.toNat (arg9.view.readAt (Elt F) (Rect.unit (s := S16385) (k0_off11 v1288 k) S1.size inb).toLoadRect f9 x)
      = at1 (arg9.view.read (Elt F) f9) k.val :=
    fun inb x => at1_load arg9.view f9 inb x _ (congrFun (off11_val v1288 k hk) 0) rfl
  have l8 : ∀ inb x, BitVec.toNat (arg8.view.readAt (Elt F) (Rect.unit (s := S16385) (k0_off12 v1288 k) S1.size inb).toLoadRect f8 x)
      = at1 (arg8.view.read (Elt F) f8) k.val :=
    fun inb x => at1_load arg8.view f8 inb x _ (congrFun (off12_val v1288 k hk) 0) rfl
  have l9' : ∀ inb x, BitVec.toNat (arg9.view.readAt (Elt F) (Rect.unit (s := S16385) (k0_off11 v1288 k) S1.size inb).toLoadRect f9 x) < 1000000 :=
    fun inb x => (l9 inb x).trans_lt hr
  have l8' : ∀ inb x, BitVec.toNat (arg8.view.readAt (Elt F) (Rect.unit (s := S16385) (k0_off12 v1288 k) S1.size inb).toLoadRect f8 x) < 16384 :=
    fun inb x => (l8 inb x).trans_lt hb
  have hi := point_lt i
  unfold k0_t4_body
  iintro ⟨H3, H5, H8, H9⟩
  by_cases hq : at1 (arg9.view.read (Elt F) f9) k.val / 32768 = (i 0).val
  · have hq' : ∀ inb x, BitVec.toNat (arg9.view.readAt (Elt F) (Rect.unit (s := S16385) (k0_off11 v1288 k) S1.size inb).toLoadRect f9 x) / 32768 = (i 0).val :=
      fun inb x => by rw [l9 inb x]; exact hq
    have hcond : ∀ inb x, k0_cond2 i (arg9.view.readAt (Elt F) (Rect.unit (s := S16385) (k0_off11 v1288 k) S1.size inb).toLoadRect f9 x) = 1#1 :=
      fun inb x => (cond2_iff i _ (l9' inb x)).2 (hq' inb x)
    sl_exec (disch := first
      | exact hcond _ _
      | exact chk6_of _ _ _ _ hk (l9' _ _)
      | exact chk7_of _ _ _ (l8' _ _))
    sl_step
    iexists _
    isplitl [H3]; · iexact H3
    isplitl [H5]; · iexact H5
    isplitl [H8]; · iexact H8
    isplitl [H9]; · iexact H9
    ipureintro
    intro y
    refine (put_read arg3.view f3 arg5.view f5 _ _ _ _ _ _ (l8' _ _) (off13_val _ (l8' _ _))
      (off14_val i _ (l9' _ _) (hq' _ _)) (pay286_apply i _ harg0 _ _ (l9' _ _) (hq' _ _) _ _) y).trans ?_
    have hy2 : (y 2).val < 128 := (y 2).isLt
    rw [show BitVec.toNat _ = _ from l9 _ _, show BitVec.toNat _ = _ from l8 _ _]
    refine if_congr ?_ rfl rfl
    unfold col
    omega
  · have hcond : ∀ inb x, ¬ k0_cond2 i (arg9.view.readAt (Elt F) (Rect.unit (s := S16385) (k0_off11 v1288 k) S1.size inb).toLoadRect f9 x) = 1#1 :=
      fun inb x h => hq ((congrArg (· / 32768) (l9 inb x)).symm.trans ((cond2_iff i _ (l9' inb x)).1 h))
    sl_exec (disch := first
      | exact hcond _ _
      | exact chk6_of _ _ _ _ hk (l9' _ _))
    sl_step
    iexists _
    isplitl [H3]; · iexact H3
    isplitl [H5]; · iexact H5
    isplitl [H8]; · iexact H8
    isplitl [H9]; · iexact H9
    ipureintro
    intro y
    have hc : (y 0).val < 256 := (y 0).isLt
    have hy2 : (y 2).val < 128 := (y 2).isLt
    exact (if_neg (by unfold col; omega)).symm

end Cert.KernelIdeal.Merge
-- ==== Proof.Ideal.LastPart.lean ====
/-
  THE LAST PART OF THE BODY: the last tile, the two loops that put the updates in, and the first tiles written out.
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Apply

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter

/-- The tiles before the updates: those copied from the block. -/
abbrev tilesBefore (arg5 : Memref sig .tc .vmem S256x64x128 .f32) (f5 : BufTy.Contents (Elt F) arg5.view.ty) (v1279 : FVec F S64x128 .f32) :
    BufTy.Contents (Elt F) arg5.view.ty :=
  arg5.view.writes (Elt F) f5 [⟨Rect.unit (s := S256x64x128) ![255, 0, 0] S1x64x128.size inb_S256x64x128_S1x64x128_255_0_0, k0_pay284 v1279⟩]

/-- What the last part leaves: the tiles with their updates, the first three written out, the fourth read. -/
abbrev afterPart48 (c : Dev nD) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (v1279 : FVec F S64x128 .f32)
    (f1 : BufTy.Contents (Elt F) arg1.view.ty) (f3 : BufTy.Contents (Elt F) arg3.view.ty) (f4 : BufTy.Contents (Elt F) arg4.view.ty)
    (f5 : BufTy.Contents (Elt F) arg5.view.ty) (v : Vec F S1x64x128 .f32) : sProp 𝕄 :=
  iprop(∃ f5' : BufTy.Contents (Elt F) arg5.view.ty,
    ⌜v = View.readAt (Elt F) arg5.view (Rect.unit (s := S256x64x128) ![3, 0, 0] S1x64x128.size inb_S256x64x128_S1x64x128_3_0_0).toLoadRect f5'⌝
    ∗ pt c arg1 f1 ∗ tables c (rows arg1 f1) 16384 arg6 arg7 arg8 arg9 arg10 ∗ pt c arg3 f3 ∗ pt c arg5 f5'
    ∗ pt c arg4 (arg4.view.writes (Elt F) f4
      [⟨Rect.unit (s := S64x32768) ![0, 256] S64x128.size inb_S64x32768_S64x128_0_256, k0_pay290 (View.readAt (Elt F) arg5.view (Rect.unit (s := S256x64x128) ![2, 0, 0] S1x64x128.size inb_S256x64x128_S1x64x128_2_0_0).toLoadRect f5')⟩,
       ⟨Rect.unit (s := S64x32768) ![0, 128] S64x128.size inb_S64x32768_S64x128_0_128, k0_pay289 (View.readAt (Elt F) arg5.view (Rect.unit (s := S256x64x128) ![1, 0, 0] S1x64x128.size inb_S256x64x128_S1x64x128_1_0_0).toLoadRect f5')⟩,
       ⟨Rect.unit (s := S64x32768) ![0, 0] S64x128.size inb_S64x32768_S64x128_0_0, k0_pay288 (View.readAt (Elt F) arg5.view (Rect.unit (s := S256x64x128) ![0, 0, 0] S1x64x128.size inb_S256x64x128_S1x64x128_0_0_0).toLoadRect f5')⟩])
    ∗ ⌜∀ y, arg5.view.read (Elt F) f5' y = lastPut (fun b => rows arg1 f1 b = (i 0).val * 32768 + col y) (fun b => upd (arg3.view.read (Elt F) f3) b (y 1)) (arg5.view.read (Elt F) (tilesBefore arg5 f5 v1279) y) 16384⌝)

theorem part48 (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole) (arg0 : BitVec 32) (harg0 : arg0 = BitVec.ofNat 32 (i 0).val)
    (v1279 : FVec F S64x128 .f32) (v1280 : Vec F S1x64x128 .f32)
    (f1 : BufTy.Contents (Elt F) arg1.view.ty) (f3 : BufTy.Contents (Elt F) arg3.view.ty) (f4 : BufTy.Contents (Elt F) arg4.view.ty)
    (f5 : BufTy.Contents (Elt F) arg5.view.ty) (hw : ∀ b, rows arg1 f1 b < 1000000) :
    iprop((pt c arg1 f1 ∗ tables c (rows arg1 f1) 16384 arg6 arg7 arg8 arg9 arg10) ∗ pt c arg3 f3 ∗ pt c arg4 f4 ∗ pt c arg5 f5)
      ⊢ wp frame (wpE (defs₀ (F := F)) 𝒱 (c : Thread nD τ) bd) E (k0_part48 (F := F) i arg1 harg1 arg2 harg2 arg3 harg3 arg4 harg4 arg5 harg5 arg6 harg6 arg7 harg7 arg8 harg8 arg9 harg9 arg10 harg10 arg0 v1279 v1280)
        (afterPart48 c i arg1 harg1 arg2 harg2 arg3 harg3 arg4 harg4 arg5 harg5 arg6 harg6 arg7 harg7 arg8 harg8 arg9 harg9 arg10 harg10 v1279 f1 f3 f4 f5) := by
  rw [k0_part48_eq_skeleton]
  unfold k0_part48_skel tables
  iintro ⟨⟨H1, %f6, %f7, %f8, %f9, %f10, H6, H7, H8, H9, H10, %hS⟩, H3, H4, H5⟩
  have hi := point_lt i
  have l7 : ∀ inb x, BitVec.toNat (arg7.view.readAt (Elt F) (Rect.unit (s := S32) (k0_off7 i) S1.size inb).toLoadRect f7 x)
      = at1 (arg7.view.read (Elt F) f7) (i 0).val :=
    fun inb x => at1_load arg7.view f7 inb x _ (congrFun (off7_val i) 0) rfl
  have l10 : ∀ inb x, BitVec.toNat (arg10.view.readAt (Elt F) (Rect.unit (s := KernelIdeal.S1) ![0] S1.size inb).toLoadRect f10 x)
      = at1 (arg10.view.read (Elt F) f10) 0 :=
    fun inb x => at1_load arg10.view f10 inb x 0 rfl rfl
  have l10' : ∀ inb x, BitVec.toNat (arg10.view.readAt (Elt F) (Rect.unit (s := KernelIdeal.S1) ![0] S1.size inb).toLoadRect f10 x) ≤ 16384 :=
    fun inb x => (l10 inb x).trans_le hS.ovn_le
  have hcn := hS.cnt_le (i 0).val (by omega)
  have hl : ∀ j < min (at1 (arg7.view.read (Elt F) f7) (i 0).val) 1024, at2 (arg6.view.read (Elt F) f6) (i 0).val j < 2 ^ 29 := by
    intro j hj
    obtain ⟨b, hb, _, e⟩ := hS.lst_ok (i 0).val (by omega) j (by omega) (by omega)
    rw [e]
    unfold pack
    omega
  sl_exec
  sl_for (fun k _ => iprop(∃ f5', pt c arg3 f3 ∗ pt c arg5 f5' ∗ pt c arg6 f6 ∗
      ⌜∀ y, arg5.view.read (Elt F) f5' y = lastPut (fun j => at2 (arg6.view.read (Elt F) f6) (i 0).val j / 16384 = col y)
        (fun j => upd (arg3.view.read (Elt F) f3) (at2 (arg6.view.read (Elt F) f6) (i 0).val j % 16384) (y 1))
        (arg5.view.read (Elt F) (tilesBefore arg5 f5 v1279) y) (min k (min (at1 (arg7.view.read (Elt F) f7) (i 0).val) 1024))⌝)) $$ [H3 H5 H6]
  case region =>
    intro k _
    iintro ⟨%f5', H3, H5, H6, %h5⟩
    iapply (wp_wand_r Idealize.ShloMosaic.frame (wpE (defs₀ (F := F)) 𝒱 (c : Thread nD τ) bd) E)
    isplitl [H3 H5 H6]
    · iapply (trip3 𝒱 c bd E i arg1 harg1 arg2 harg2 arg3 harg3 arg4 harg4 arg5 harg5 arg6 harg6 arg7 harg7 arg8 harg8 arg9 harg9 arg10 harg10 arg0 v1279 v1280 _ k f3 f5' f6 _ (l7 _ _) hcn hl)
      isplitl [H3]; · iexact H3
      isplitl [H5]; · iexact H5
      iexact H6
    · iintro %_ ⟨%f5'', H3, H5, H6, %h5'⟩
      iexists f5''
      isplitl [H3]; · iexact H3
      isplitl [H5]; · iexact H5
      isplitl [H6]; · iexact H6
      ipureintro
      intro y
      rw [h5' y, h5 y]
      generalize at1 (arg7.view.read (Elt F) f7) (i 0).val = cn
      by_cases hk : k.val < min cn 1024
      · rw [show min (k.val + 1) (min cn 1024) = k.val + 1 by omega, show min k.val (min cn 1024) = k.val by omega, lastPut_succ]
        exact if_congr (by simp [hk]) rfl rfl
      · rw [show min (k.val + 1) (min cn 1024) = min k.val (min cn 1024) by omega]
        exact if_neg fun h => hk h.1
  · iexists _
    isplitl [H3]; · iexact H3
    isplitl [H5]; · iexact H5
    isplitl [H6]; · iexact H6
    ipureintro
    intro y
    rw [Nat.zero_min, lastPut_zero]
  iintro %_ ⟨%f5', H3, H5, H6, %h5⟩
  sl_exec (disch := exact chk5_of _ (l10' _ _))
  sl_for (fun k _ => iprop(∃ f5'', pt c arg3 f3 ∗ pt c arg5 f5'' ∗ pt c arg8 f8 ∗ pt c arg9 f9 ∗
      ⌜∀ y, arg5.view.read (Elt F) f5'' y = lastPut (fun m => at1 (arg9.view.read (Elt F) f9) m = (i 0).val * 32768 + col y)
        (fun m => upd (arg3.view.read (Elt F) f3) (at1 (arg8.view.read (Elt F) f8) m) (y 1))
        (arg5.view.read (Elt F) f5' y) k⌝)) $$ [H3 H5 H8 H9]
  case region =>
    intro k acc
    iintro ⟨%f5'', H3, H5, H8, H9, %h5''⟩
    have hk : k.val < at1 (arg10.view.read (Elt F) f10) 0 := by
      refine Nat.lt_of_lt_of_le k.isLt (Nat.le_of_eq ?_)
      exact (trips4 _ (l10' _ _)).trans (l10 _ _)
    have hov := hS.ov_ok k.val hk
    iapply (wp_wand_r Idealize.ShloMosaic.frame (wpE (defs₀ (F := F)) 𝒱 (c : Thread nD τ) bd) E)
    isplitl [H3 H5 H8 H9]
    · iapply (trip4 𝒱 c bd E i arg1 harg1 arg2 harg2 arg3 harg3 arg4 harg4 arg5 harg5 arg6 harg6 arg7 harg7 arg8 harg8 arg9 harg9 arg10 harg10 arg0 harg0 v1279 v1280 _ _ k acc f3 f5'' f8 f9 (Nat.lt_of_lt_of_le hk hS.ovn_le) hov.1 (hov.2 ▸ hw _))
      isplitl [H3]; · iexact H3
      isplitl [H5]; · iexact H5
      isplitl [H8]; · iexact H8
      iexact H9
    · iintro %_ ⟨%f5''', H3, H5, H8, H9, %h5'''⟩
      iexists f5'''
      isplitl [H3]; · iexact H3
      isplitl [H5]; · iexact H5
      isplitl [H8]; · iexact H8
      isplitl [H9]; · iexact H9
      ipureintro
      intro y
      rw [h5''' y, h5'' y, lastPut_succ]
  · iexists _
    isplitl [H3]; · iexact H3
    isplitl [H5]; · iexact H5
    isplitl [H8]; · iexact H8
    isplitl [H9]; · iexact H9
    ipureintro
    intro y
    rw [lastPut_zero]
  iintro %_ ⟨%f5'', H3, H5, H8, H9, %h5''⟩
  sl_exec
  sl_step
  iexists f5''
  isplitr; · ipureintro; rfl
  isplitl [H1]; · iexact H1
  isplitl [H6 H7 H8 H9 H10]
  · unfold tables
    iexists f6, f7, f8, f9, f10
    isplitl [H6]; · iexact H6
    isplitl [H7]; · iexact H7
    isplitl [H8]; · iexact H8
    isplitl [H9]; · iexact H9
    isplitl [H10]; · iexact H10
    ipureintro
    exact hS
  isplitl [H3]; · iexact H3
  isplitl [H5]; · iexact H5
  isplitl [H4]; · iexact H4
  ipureintro
  intro y
  have hc : (y 0).val < 256 := (y 0).isLt
  have hy2 : (y 2).val < 128 := (y 2).isLt
  refine ((h5'' y).trans ?_).trans (hS.last (i 0).val (by omega) (col y) (by unfold col; omega) _ _ _)
  refine congr (congrArg (lastPut _ _) ((h5 y).trans (congrArg (lastPut _ _ _) ?_))) ((trips4 _ (l10' _ _)).trans (l10 _ _))
  exact (congrArg (min · _) trips3).trans (by omega)

end Cert.KernelIdeal.Merge
-- ==== Proof.Ideal.Body.lean ====
/-
  THE WHOLE BODY: one block read, its updates put in, and the block written out.

  The block is copied into 256 tiles of 128 columns (`tileIn`), the updates are put into the tiles (`part48`), and the tiles
  are copied out (`tileOut`). So each element of the block written is the last update of its row, where there is one, and
  the element read where there is none (`body`).
-/
module

public import proofs.«01_k».proof.Proof.Gen.KernelIdeal.Loops
public import proofs.«01_k».proof.Proof.Gen.KernelIdeal.Launch
public import Idealize.ShloMosaic.Lib.LoopRemainder
public import Idealize.ShloMosaic.Lib.Writes
public import Idealize.ShloMosaic.Lib.Ring
public import proofs.«01_k».proof.Proof.Ideal.LastPart

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter

theorem ix2_ext {m n : ℕ} {x y : (⟨2, ![m, n]⟩ : Shape).Idx} (h0 : (x 0).val = (y 0).val) (h1 : (x 1).val = (y 1).val) : x = y :=
  funext fun a => Fin.ext (match a with | 0 => h0 | 1 => h1)

/-- The block's element that an element of a tile holds. -/
def inBlock (z : S256x64x128.Idx) : S64x32768.Idx :=
  ix2 (z 1).val (col z) (z 1).isLt (by
    have h0 : (z 0).val < 256 := (z 0).isLt
    have h2 : (z 2).val < 128 := (z 2).isLt
    unfold col
    omega)

/-- The element of a tile that holds a block's element. -/
def inTile (y : S64x32768.Idx) : S256x64x128.Idx :=
  ix3 ⟨(y 1).val / 128, by have h : (y 1).val < 32768 := (y 1).isLt; omega⟩ (y 0) ⟨(y 1).val % 128, Nat.mod_lt _ (by decide)⟩

theorem inBlock_inTile (y : S64x32768.Idx) : inBlock (inTile y) = y := by
  refine ix2_ext rfl ?_
  show 128 * ((y 1).val / 128) + (y 1).val % 128 = (y 1).val
  omega

theorem col_inTile (y : S64x32768.Idx) : col (inTile y) = (y 1).val := by
  show 128 * ((y 1).val / 128) + (y 1).val % 128 = (y 1).val
  omega

/-- A tile copied from the block holds the block's columns. -/
theorem tileIn {sp : Space} (arg2 : Memref sig .tc sp S64x32768 .f32) (f2 : BufTy.Contents (Elt F) arg2.view.ty) {off5 : Fin 3 → ℕ} {off2 : Fin 2 → ℕ} (t : ℕ)
    (ho5 : off5 = ![t, 0, 0]) (ho2 : off2 = ![0, 128 * t]) (inb5 : ∀ a, off5 a + S1x64x128.size a ≤ S256x64x128.size a)
    (inb2 : ∀ a, off2 a + S64x128.size a ≤ S64x32768.size a) (h : S64x128.ShapeCasts S64x128) (h' : S64x128.ShapeCasts S1x64x128)
    (x : (Rect.unit (s := S256x64x128) off5 S1x64x128.size inb5).shape.Idx) :
    shapeCast S1x64x128 (shapeCast S64x128 (View.readAt (Elt F) arg2.view (Rect.unit (s := S64x32768) off2 S64x128.size inb2).toLoadRect f2) h) h' x
      = arg2.view.read (Elt F) f2 (inBlock ((Rect.unit (s := S256x64x128) off5 S1x64x128.size inb5).emb x)) := by
  subst ho5 ho2
  refine (shapeCast_addUnit_apply ![64, 128] _ h' x).trans ((congrFun (shapeCast_self _ h) _).trans ?_)
  have h0 : (x 0).val < 1 := (x 0).isLt
  refine congrArg (arg2.view.read (Elt F) f2) (ix2_ext ?_ ?_)
  · show 0 + 1 * (x 1).val = 0 + 1 * (x 1).val
    rfl
  · show 128 * t + 1 * (x 2).val = 128 * (t + 1 * (x 0).val) + (0 + 1 * (x 2).val)
    omega

/-- Columns copied from a tile are the tile's elements. -/
theorem tileOut {sp : Space} (arg5 : Memref sig .tc sp S256x64x128 .f32) (f5 : BufTy.Contents (Elt F) arg5.view.ty) {off5 : Fin 3 → ℕ} {off4 : Fin 2 → ℕ} (t : ℕ)
    (ho5 : off5 = ![t, 0, 0]) (ho4 : off4 = ![0, 128 * t]) (inb5 : ∀ a, off5 a + S1x64x128.size a ≤ S256x64x128.size a)
    (inb4 : ∀ a, off4 a + S64x128.size a ≤ S64x32768.size a) (h : S1x64x128.ShapeCasts S64x128)
    (x : (Rect.unit (s := S64x32768) off4 S64x128.size inb4).shape.Idx) :
    shapeCast S64x128 (View.readAt (Elt F) arg5.view (Rect.unit (s := S256x64x128) off5 S1x64x128.size inb5).toLoadRect f5) h x
      = arg5.view.read (Elt F) f5 (inTile ((Rect.unit (s := S64x32768) off4 S64x128.size inb4).emb x)) := by
  subst ho5 ho4
  refine (shapeCast_dropUnit_apply ![64, 128] _ h x).trans ?_
  rw [View.readAt_apply]
  have h1 : (x 1).val < 128 := (x 1).isLt
  refine congrArg _ (ix3_ext ?_ ?_ ?_)
  · show t + 1 * 0 = (128 * t + 1 * (x 1).val) / 128
    omega
  · show 0 + 1 * (x 0).val = 0 + 1 * (x 0).val
    rfl
  · show 0 + 1 * (x 1).val = (128 * t + 1 * (x 1).val) % 128
    omega

theorem tileIn_cons {sp : Space} (arg2 : Memref sig .tc sp S64x32768 .f32) (f2 : BufTy.Contents (Elt F) arg2.view.ty) {off5 : Fin 3 → ℕ} {off2 : Fin 2 → ℕ}
    {inb5 : ∀ a, off5 a + S1x64x128.size a ≤ S256x64x128.size a} {w : FVec F S1x64x128 .f32} {L : List (View.Piece (Elt F) S256x64x128 .f32)}
    {inb2 : ∀ a, off2 a + S64x128.size a ≤ S64x32768.size a} {h : S64x128.ShapeCasts S64x128} {h' : S64x128.ShapeCasts S1x64x128} {t : ℕ}
    (hw : w = shapeCast S1x64x128 (shapeCast S64x128 (View.readAt (Elt F) arg2.view (Rect.unit (s := S64x32768) off2 S64x128.size inb2).toLoadRect f2) h) h')
    (ho5 : off5 = ![t, 0, 0]) (ho2 : off2 = ![0, 128 * t])
    (hL : ∀ p ∈ L, ∀ x : p.1.shape.Idx, p.2 x = arg2.view.read (Elt F) f2 (inBlock (p.1.emb x))) :
    ∀ p ∈ (⟨Rect.unit (s := S256x64x128) off5 S1x64x128.size inb5, w⟩ :: L : List (View.Piece (Elt F) S256x64x128 .f32)),
      ∀ x : p.1.shape.Idx, p.2 x = arg2.view.read (Elt F) f2 (inBlock (p.1.emb x)) :=
  List.forall_mem_cons.2 ⟨by subst hw; exact tileIn arg2 f2 t ho5 ho2 inb5 inb2 h h', hL⟩

theorem tileOut_cons {sp : Space} (arg5 : Memref sig .tc sp S256x64x128 .f32) (f5 : BufTy.Contents (Elt F) arg5.view.ty) {off5 : Fin 3 → ℕ} {off4 : Fin 2 → ℕ}
    {inb4 : ∀ a, off4 a + S64x128.size a ≤ S64x32768.size a} {w : FVec F S64x128 .f32} {L : List (View.Piece (Elt F) S64x32768 .f32)}
    {inb5 : ∀ a, off5 a + S1x64x128.size a ≤ S256x64x128.size a} {h : S1x64x128.ShapeCasts S64x128} {t : ℕ}
    (hw : w = shapeCast S64x128 (View.readAt (Elt F) arg5.view (Rect.unit (s := S256x64x128) off5 S1x64x128.size inb5).toLoadRect f5) h)
    (ho5 : off5 = ![t, 0, 0]) (ho4 : off4 = ![0, 128 * t])
    (hL : ∀ p ∈ L, ∀ x : p.1.shape.Idx, p.2 x = arg5.view.read (Elt F) f5 (inTile (p.1.emb x))) :
    ∀ p ∈ (⟨Rect.unit (s := S64x32768) off4 S64x128.size inb4, w⟩ :: L : List (View.Piece (Elt F) S64x32768 .f32)),
      ∀ x : p.1.shape.Idx, p.2 x = arg5.view.read (Elt F) f5 (inTile (p.1.emb x)) :=
  List.forall_mem_cons.2 ⟨by subst hw; exact tileOut arg5 f5 t ho5 ho4 inb5 inb4 h, hL⟩

theorem tilesBefore_apply (arg5 : Memref sig .tc .vmem S256x64x128 .f32) (f5 : BufTy.Contents (Elt F) arg5.view.ty) (v : FVec F S64x128 .f32)
    (L : List (View.Piece (Elt F) S256x64x128 .f32)) (G : S256x64x128.Idx → Elt F .f32)
    (hG : ∀ p ∈ (⟨Rect.unit (s := S256x64x128) ![255, 0, 0] S1x64x128.size inb_S256x64x128_S1x64x128_255_0_0, k0_pay284 v⟩ :: L :
      List (View.Piece (Elt F) S256x64x128 .f32)), ∀ x : p.1.shape.Idx, p.2 x = G (p.1.emb x))
    (hT : View.Piece.tiledL (⟨Rect.unit (s := S256x64x128) ![255, 0, 0] S1x64x128.size inb_S256x64x128_S1x64x128_255_0_0, k0_pay284 v⟩ :: L) ![1, 64, 128] = true)
    (z : S256x64x128.Idx) : arg5.view.read (Elt F) (tilesBefore arg5 (arg5.view.writes (Elt F) f5 L) v) z = G z :=
  View.read_writes_apply_of_pieces arg5.view f5 G _ hG z (View.cover_of_tiledL _ _ hT z)

theorem blockAfter_apply (arg4 : Memref sig .tc .vmem S64x32768 .f32) (f4 : BufTy.Contents (Elt F) arg4.view.ty)
    (L : List (View.Piece (Elt F) S64x32768 .f32)) (G : S64x32768.Idx → Elt F .f32)
    (hG : ∀ p ∈ L, ∀ x : p.1.shape.Idx, p.2 x = G (p.1.emb x)) (hT : View.Piece.tiledL L ![64, 128] = true) (y : S64x32768.Idx) :
    arg4.view.read (Elt F) (arg4.view.writes (Elt F) f4 L) y = G y :=
  View.read_writes_apply_of_pieces arg4.view f4 G L hG y (View.cover_of_tiledL L _ hT y)

/-- The body at a grid point: from `S`, which its first part turns into the buckets, and the block `f2`. -/
theorem body (𝒱 : Variants) (c : Dev nD) (bd : Option 𝒱.V) (E : Set ℕ) (i : grid0.Coords) (arg1 : Memref sig .tc .smem S16384 .i32) (harg1 : arg1.IsWhole) (arg2 : Memref sig .tc .vmem S64x32768 .f32) (harg2 : arg2.IsWhole) (arg3 : Memref sig .tc .vmem S128x64x128 .f32) (harg3 : arg3.IsWhole) (arg4 : Memref sig .tc .vmem S64x32768 .f32) (harg4 : arg4.IsWhole) (arg5 : Memref sig .tc .vmem S256x64x128 .f32) (harg5 : arg5.IsWhole) (arg6 : Memref sig .tc .smem S32x1025 .i32) (harg6 : arg6.IsWhole) (arg7 : Memref sig .tc .smem S32 .i32) (harg7 : arg7.IsWhole) (arg8 : Memref sig .tc .smem S16385 .i32) (harg8 : arg8.IsWhole) (arg9 : Memref sig .tc .smem S16385 .i32) (harg9 : arg9.IsWhole) (arg10 : Memref sig .tc .smem S1 .i32) (harg10 : arg10.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (hw : ∀ b, rows arg1 f1 b < 1000000)
    (S : sProp 𝕄)
    (hcut1 : ∀ f5 : BufTy.Contents (Elt F) arg5.view.ty, iprop(S ∗ pt c arg2 f2 ∗ pt c arg5 f5)
      ⊢ wp frame (wpE (defs₀ (F := F)) 𝒱 (c : Thread nD τ) bd) E (k0_part1 (F := F) i arg1 harg1 arg2 harg2 arg3 harg3 arg4 harg4 arg5 harg5 arg6 harg6 arg7 harg7 arg8 harg8 arg9 harg9 arg10 harg10) (afterPart1 c i arg1 harg1 arg2 harg2 arg3 harg3 arg4 harg4 arg5 harg5 arg6 harg6 arg7 harg7 arg8 harg8 arg9 harg9 arg10 harg10 f1 f2 f5)) :
    iprop(S ∗ pt c arg2 f2 ∗ pt c arg3 f3 ∗ pt c arg4 f4 ∗ pt c arg5 f5)
      ⊢ wp frame (wpE (defs₀ (F := F)) 𝒱 (c : Thread nD τ) bd) E (cc0__merge_body (F := F) i arg1 harg1 arg2 harg2 arg3 harg3 arg4 harg4 arg5 harg5 arg6 harg6 arg7 harg7 arg8 harg8 arg9 harg9 arg10 harg10) (fun _ =>
        iprop(∃ f4' f5', (pt c arg1 f1 ∗ tables c (rows arg1 f1) 16384 arg6 arg7 arg8 arg9 arg10) ∗ pt c arg2 f2 ∗ pt c arg3 f3 ∗
          pt c arg4 f4' ∗ pt c arg5 f5' ∗
          ⌜∀ y : S64x32768.Idx, arg4.view.read (Elt F) f4' y = lastPut (fun b => rows arg1 f1 b = (i 0).val * 32768 + (y 1).val)
            (fun b => upd (arg3.view.read (Elt F) f3) b (y 0)) (arg2.view.read (Elt F) f2 y) 16384⌝)) := by
  have hcut48 := fun (arg0 : BitVec 32) (harg0 : arg0 = BitVec.ofNat 32 (i 0).val) (v1279 : FVec F S64x128 .f32) (v1280 : Vec F S1x64x128 .f32)
      (f4 : BufTy.Contents (Elt F) arg4.view.ty) (f5 : BufTy.Contents (Elt F) arg5.view.ty) =>
    part48 𝒱 c bd E i arg1 harg1 arg2 harg2 arg3 harg3 arg4 harg4 arg5 harg5 arg6 harg6 arg7 harg7 arg8 harg8 arg9 harg9 arg10 harg10 arg0 harg0 v1279 v1280 f1 f3 f4 f5 hw
  iintro ⟨HS, H2, H3, H4, H5⟩
  sl_exec_parts
  sl_step
  iexists _, _
  isplitl [Hk0_part48_1 Hk0_part48_2 Hk0_part48_3 Hk0_part48_4 Hk0_part48_5 Hk0_part48_6]
  · isplitl [Hk0_part48_1]; · iexact Hk0_part48_1
    unfold tables
    iexists _, _, _, _, _
    isplitl [Hk0_part48_2]; · iexact Hk0_part48_2
    isplitl [Hk0_part48_3]; · iexact Hk0_part48_3
    isplitl [Hk0_part48_4]; · iexact Hk0_part48_4
    isplitl [Hk0_part48_5]; · iexact Hk0_part48_5
    isplitl [Hk0_part48_6]; · iexact Hk0_part48_6
    ipureintro
    exact hk0_part48_7
  isplitl [Hk0_part1_9]; · iexact Hk0_part1_9
  isplitl [Hk0_part48_8]; · iexact Hk0_part48_8
  isplitl [Hk0_part48_10]; · iexact Hk0_part48_10
  isplitl [Hk0_part48_9]; · iexact Hk0_part48_9
  ipureintro
  intro y
  obtain rfl : k0_part48_r = _ := hk0_part48_0
  obtain rfl : v24 = _ := hk0_part1_1
  refine (blockAfter_apply arg4 f4 _ (fun y => arg5.view.read (Elt F) f5'k0_part48_0 (inTile y)) ?_ (by sl_kernel_rfl) y).trans ?_
  · refine tileOut_cons arg5 f5'k0_part48_0 rfl rfl rfl ?_
    (repeat refine tileOut_cons arg5 f5'k0_part48_0 rfl rfl rfl ?_)
    exact List.forall_mem_nil _
  refine (hk0_part48_11 (inTile y)).trans ?_
  rw [col_inTile]
  refine congrArg (fun a => lastPut _ _ a 16384) ?_
  refine (tilesBefore_apply arg5 f5 _ _ (fun z => arg2.view.read (Elt F) f2 (inBlock z)) ?_ (by sl_kernel_rfl) (inTile y)).trans ?_
  · refine tileIn_cons arg2 f2 rfl rfl rfl ?_
    (repeat refine tileIn_cons arg2 f2 rfl rfl rfl ?_)
    exact List.forall_mem_nil _
  exact congrArg _ (inBlock_inTile y)

end Cert.KernelIdeal.Merge
-- ==== Proof.Ideal.Point.lean ====
/-
  ONE GRID POINT: the body at its windows' staging buffers.

  Of the arrays the region is entered with: the rows' table, the transposed data, the tiled updates. At each point the body
  finds its block of the data and all the updates, and leaves the block with the updates of its rows put in. The first point
  makes the buckets, which every point hands on to the next.
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Body
public import Idealize.ShloMosaic.Lib.Pipeline.FrameBody

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter
open Idealize.ShloMosaic.Pipeline (Dat BodyObligationLoose)

/-- The table's rows. -/
abbrev tableRows (tbl : main_v0.ty.Contents (Elt F)) : ℕ → ℕ := rows (Memref.whole main_v0) tbl

/-- A block of the data `x` with the updates `U` of its rows put in: the block at point `q`, the updates' rows `w`. -/
def putIn {α : Type} (w : ℕ → ℕ) (q : ℕ) (U : S128x64x128.Idx → α) (x : S64x32768.Idx → α) : S64x32768.Idx → α :=
  fun y => lastPut (fun b => w b = q * 32768 + (y 1).val) (fun b => upd U b (y 0)) (x y) 16384

/-- What the points hand on: before the first the buckets are not made yet, -/
def Φ₀ (c : Dev nD) (tbl : main_v0.ty.Contents (Elt F)) : sProp 𝕄 :=
  iprop((pt c (Memref.whole main_v0) tbl ∗ anyTables c (Memref.whole cc0_scratch1) (Memref.whole cc0_scratch2) (Memref.whole cc0_scratch3)
    (Memref.whole cc0_scratch4) (Memref.whole cc0_scratch5)) ∗ ∃ f5, pt c (Memref.whole cc0_scratch0) f5)

/-- and from then on they are. -/
def Φ₁ (c : Dev nD) (tbl : main_v0.ty.Contents (Elt F)) : sProp 𝕄 :=
  iprop((pt c (Memref.whole main_v0) tbl ∗ tables c (tableRows tbl) 16384 (Memref.whole cc0_scratch1) (Memref.whole cc0_scratch2) (Memref.whole cc0_scratch3)
    (Memref.whole cc0_scratch4) (Memref.whole cc0_scratch5)) ∗ ∃ f5, pt c (Memref.whole cc0_scratch0) f5)

/-- The body of the region's row. -/
theorem body_row (t : Fin grid0.N) (s : (w : Fin 3) → Fin (spec0 w).nbuf) :
    defs₀ (F := F) .tc 0 (t, s) = cc0__merge_body (F := F) (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) := by
  unfold defs₀
  rw [Defs.onTc_tc]

theorem cond1_iff : ∀ t : Fin grid0.N, k0_cond1 (grid0.coords t) = 1#1 ↔ t.val = 0 := by decide +kernel

theorem coords_val : ∀ t : Fin grid0.N, (grid0.coords t 0).val = t.val := by decide +kernel

/-- The kernel's variants: none. -/
abbrev 𝒱₀ : Variants := Variants.none

/-- The body at point `t` on its windows' buffers. -/
theorem point_run (c : Dev nD) (t : Fin grid0.N) (s : (w : Fin 3) → Fin (spec0 w).nbuf) (tbl : main_v0.ty.Contents (Elt F))
    (hw : ∀ b, tableRows tbl b < 1000000) (x : S64x32768.Idx → Elt F .f32) (U : S128x64x128.Idx → Elt F .f32) (o : S64x32768.Idx → Elt F .f32) :
    iprop((if t.val = 0 then Φ₀ c tbl else Φ₁ c tbl) ∗ owns (c : Thread nD τ) (spec0_0.stage (s 0)) fullShare x
      ∗ owns (c : Thread nD τ) (spec0_1.stage (s 1)) fullShare U ∗ owns (c : Thread nD τ) (spec0_2.stage (s 2)) fullShare o)
    ⊢ wp frame (wpE (defs₀ (F := F)) 𝒱₀ (c : Thread nD τ) none) Set.univ (defs₀ (F := F) .tc 0 (t, s)) (fun _ =>
      iprop(Φ₁ c tbl ∗ owns (c : Thread nD τ) (spec0_0.stage (s 0)) fullShare x
        ∗ owns (c : Thread nD τ) (spec0_1.stage (s 1)) fullShare U
        ∗ owns (c : Thread nD τ) (spec0_2.stage (s 2)) fullShare (putIn (tableRows tbl) t.val U x))) := by
  rw [body_row]
  have key : ∀ S : sProp 𝕄, (∀ f2 (f5 : cc0_scratch0.ty.Contents (Elt F)), iprop(S ∗ pt c (spec0_0.stage (s 0)) f2 ∗ pt c (Memref.whole cc0_scratch0) f5)
      ⊢ wp frame (wpE (defs₀ (F := F)) 𝒱₀ (c : Thread nD τ) none) Set.univ (k0_part1 (F := F) (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _))
        (afterPart1 c (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) tbl f2 f5)) →
      iprop((S ∗ ∃ f5, pt c (Memref.whole cc0_scratch0) f5) ∗ owns (c : Thread nD τ) (spec0_0.stage (s 0)) fullShare x
        ∗ owns (c : Thread nD τ) (spec0_1.stage (s 1)) fullShare U ∗ owns (c : Thread nD τ) (spec0_2.stage (s 2)) fullShare o)
      ⊢ wp frame (wpE (defs₀ (F := F)) 𝒱₀ (c : Thread nD τ) none) Set.univ (cc0__merge_body (F := F) (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) (fun _ =>
        iprop(Φ₁ c tbl ∗ owns (c : Thread nD τ) (spec0_0.stage (s 0)) fullShare x
          ∗ owns (c : Thread nD τ) (spec0_1.stage (s 1)) fullShare U
          ∗ owns (c : Thread nD τ) (spec0_2.stage (s 2)) fullShare (putIn (tableRows tbl) t.val U x))) := by
    intro S hcut
    unfold owns
    iintro ⟨⟨HS, ⟨%f5, H5⟩⟩, ⟨%f2, %e2, H2⟩, ⟨%f3, %e3, H3⟩, ⟨%f4, %e4, H4⟩⟩
    iapply (wp_wand_r Idealize.ShloMosaic.frame (wpE (defs₀ (F := F)) 𝒱₀ (c : Thread nD τ) none) Set.univ)
    isplitl [HS H2 H3 H4 H5]
    · iapply (body 𝒱₀ c none Set.univ (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) tbl f2 f3 f4 f5 hw S (hcut f2))
      isplitl [HS]; · iexact HS
      isplitl [H2]; · iexact H2
      isplitl [H3]; · iexact H3
      isplitl [H4]; · iexact H4
      iexact H5
    iintro %_ ⟨%f4', %f5', HT, H2, H3, H4, H5, %e⟩
    isplitl [HT H5]
    · unfold Φ₁
      isplitl [HT]; · iexact HT
      iexists f5'; iexact H5
    isplitl [H2]
    · iexists f2; isplitr; · ipureintro; exact e2
      iexact H2
    isplitl [H3]
    · iexists f3; isplitr; · ipureintro; exact e3
      iexact H3
    iexists f4'
    isplitr
    · ipureintro
      funext y
      rw [e y, e2, e3, coords_val]
      rfl
    iexact H4
  by_cases h : t.val = 0
  · rw [if_pos h]
    unfold Φ₀
    refine key _ ?_
    intro f2 f5
    exact part1_first 𝒱₀ c none Set.univ (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((cond1_iff t).mpr h) tbl f2 f5 hw
  · rw [if_neg h]
    unfold Φ₁ at *
    refine key _ ?_
    intro f2 f5
    exact part1_rest 𝒱₀ c none Set.univ (grid0.coords t) (Memref.whole main_v0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun e => h ((cond1_iff t).mp e)) tbl f2 f5

end Cert.KernelIdeal.Merge

end
-- ==== Proof.Ideal.Region.lean ====
/-
  THE REGION'S PROOF DATA: what each window's buffer holds after each point, and the body's obligation.

  Stated at any admissible table `a` and any valuation `W` of the buffers the region is entered with.
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Point

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter
open Idealize.ShloMosaic.Pipeline (Dat BodyObligationLoose)

variable (a : (pcfg0 (F := F)).Adm) (W : Dev nD → Valuation τ sig (Elt F))

/-- The block of the data a fetch at point `t` reads. -/
def xblk (c : Dev nD) (t : Fin grid0.N) : ((win0 a 0).xblock (grid0.coords t)).Idx → Elt F .f32 :=
  ((win0 a 0).blk t).view.read (Elt F) (W c (Proc.devRef .tc main_v1))

/-- The updates as the region has them. -/
def tiles (c : Dev nD) (t : Fin grid0.N) : S128x64x128.Idx → Elt F .f32 :=
  ((win0 a 1).blk t).view.read (Elt F) (W c (Proc.devRef .tc main_v3))

/-- A block of the data in its buffer: `d` beyond the array's end. -/
def xin (c : Dev nD) (t : Fin grid0.N) (d : S64x32768.Idx → Elt F .f32) : S64x32768.Idx → Elt F .f32 :=
  (win0 a 0).fill (grid0.coords t) d (xblk a W c t)

/-- The table's contents. -/
def tbl : main_v0.ty.Contents (Elt F) := a.1 0

/-- The block the point writes, with the zero word beyond the array's end put through. -/
def xout (c : Dev nD) (t : Fin grid0.N) : S64x32768.Idx → Elt F .f32 :=
  putIn (tableRows (tbl a)) t.val (tiles a W c t) (xin a W c t fun _ => Scalar.ofBits .f32 0#32)

/-- The proof data: the arrays as the region is entered; the two inputs' buffers left as found and the output's with the
    updates put in; the buckets between the points; nothing owed. -/
def dats (c : Dev nD) : Dat τ (Elt F) Unit ℕ (UR sig nD τ) ℕ (cfg0 a) c where
  A w := W c (Proc.devRef .tc (Pipeline.arrRef spec0 w))
  after w t := match w with
    | ⟨0, _⟩ => xin a W c t fun _ => Scalar.ofBits .f32 0#32
    | ⟨1, _⟩ => tiles a W c t
    | ⟨2, _⟩ => xout a W c t
  Φ t := if t.val = 0 then Φ₀ c (tbl a) else Φ₁ c (tbl a)
  q _ := fullShare
  owed _ := 0

/-- A table to evaluate the windows' schedule at: it does not depend on the table. -/
def adm₀ : (pcfg0 (F := Bits)).Adm := ⟨fun k => match k with | ⟨0, _⟩ => fun _ => (0 : BitVec 32), trivial⟩

theorem fetch_0 (t : Fin grid0.N) : (win0 a 0).fetch t = true := by
  have h : ∀ t : Fin grid0.N, (win0 adm₀ 0).fetch t = true := by decide +kernel
  exact h t

theorem fetch_2 (t : Fin grid0.N) : (win0 a 2).fetch t = false := rfl

theorem flush_2 (t : Fin grid0.N) : (win0 a 2).flush t = true := by
  have h : ∀ t : Fin grid0.N, (win0 adm₀ 2).flush t = true := by decide +kernel
  exact h t

theorem before_0 (c : Dev nD) (t : Fin grid0.N) (d) : (dats a W c).before (0 : Fin 3) t d = xin a W c t d := by
  unfold Dat.before
  rw [if_pos (fetch_0 a t)]
  rfl

theorem before_1 (c : Dev nD) (t : Fin grid0.N) (d) : (dats a W c).before (1 : Fin 3) t d = tiles a W c t :=
  (dats a W c).before_in_eq_fetched (1 : Fin 3) rfl (fun _ => rfl) (fun _ _ _ => rfl) (fun _ => rfl) t d

theorem before_2 (c : Dev nD) (t : Fin grid0.N) (d) : (dats a W c).before (2 : Fin 3) t d = d := by
  unfold Dat.before
  rw [if_neg (by rw [fetch_2 a t]; exact Bool.false_ne_true)]
  by_cases h : t.val = 0
  · exact if_pos h
  · rw [if_neg h]
    exact if_pos (flush_2 a _)

/-- Inside the array the block written does not depend on what lies beyond its end. -/
theorem cut_out (c : Dev nD) (t : Fin grid0.N) (d : S64x32768.Idx → Elt F .f32) :
    (win0 a 2).cut (grid0.coords t) (putIn (tableRows (tbl a)) t.val (tiles a W c t) (xin a W c t d))
      = (win0 a 2).cut (grid0.coords t) (xout a W c t) := by
  funext j
  refine congrArg (fun x => lastPut _ _ x 16384) ?_
  exact ((win0 a 0).fill_xinj (grid0.coords t) d (xblk a W c t) j).trans
    ((win0 a 0).fill_xinj (grid0.coords t) _ (xblk a W c t) j).symm

theorem phi_succ (c : Dev nD) (t : Fin grid0.N) : (dats a W c).Φ t.succ = Φ₁ c (tbl a) := by
  dsimp only [dats]
  exact if_neg (Nat.succ_ne_zero _)

/-- The body's obligation at every point. -/
theorem body_obligation (hw : ∀ b, tableRows (tbl a) b < 1000000) (c : Dev nD) :
    BodyObligationLoose (dats a W c) (defs₀ (F := F)) 𝒱₀ () Set.univ := fun t => by
  rw [bigSep_W0, bigSep_W0]
  simp only
  rw [show (dats a W c).Φ t.castSucc = (if t.val = 0 then Φ₀ c (tbl a) else Φ₁ c (tbl a)) from rfl,
    phi_succ a W c t,
    show (dats a W c).owesAt () t.succ = (dats a W c).owesAt () t.castSucc from rfl]
  iintro ⟨HΦ, Ho, ⟨%d0, H0⟩, ⟨%d1, H1⟩, ⟨%d2, H2⟩⟩
  rw [before_0 a W c t d0, before_1 a W c t d1, before_2 a W c t d2]
  iapply (wp_wand_r Idealize.ShloMosaic.frame (wpE (defs₀ (F := F)) 𝒱₀ (c : Thread nD τ) none) Set.univ)
  isplitl [HΦ H0 H1 H2]
  · iapply (point_run c t ((cfg0 a).slots t) (tbl a) hw (xin a W c t d0) (tiles a W c t) d2)
    isplitl [HΦ]; · iexact HΦ
    isplitl [H0]; · iexact H0
    isplitl [H1]; · iexact H1
    iexact H2
  iintro %_ ⟨HΦ, H0, H1, H2⟩
  isplitl [HΦ]; · iexact HΦ
  isplitl [Ho]; · iexact Ho
  isplitl [H0]
  · iexists d0
    rw [show (win0 a 0).cut (grid0.coords t) ((dats a W c).after (0 : Fin 3) t) = xblk a W c t from
      (win0 a 0).cut_fill (grid0.coords t) _ (xblk a W c t)]
    iexact H0
  isplitl [H1]
  · iexact H1
  · iexists putIn (tableRows (tbl a)) t.val (tiles a W c t) (xin a W c t d0)
    rw [show (win0 a 2).fill (grid0.coords t) (putIn (tableRows (tbl a)) t.val (tiles a W c t) (xin a W c t d0))
        ((win0 a 2).cut (grid0.coords t) ((dats a W c).after (2 : Fin 3) t))
      = putIn (tableRows (tbl a)) t.val (tiles a W c t) (xin a W c t d0) from
        (win0 a 2).fill_congr_cut (grid0.coords t) (cut_out a W c t d0)]
    iexact H2

end Cert.KernelIdeal.Merge

end
-- ==== Proof.Ideal.Value.lean ====
/-
  THE REGION'S OUTPUT in closed form: the data with each row's last update put in.

  The points' blocks tile the array, the last one cut at its end; each is written with what the point makes of its own block
  of the data (`arr_out`).
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Region
public import Idealize.ShloMosaic.Lib.Pipeline.Value

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter
open Idealize.ShloMosaic.Pipeline (Dat BodyObligationLoose)

variable (a : (pcfg0 (F := F)).Adm) (W : Dev nD → Valuation τ sig (Elt F))

theorem index_0 (t : Fin grid0.N) : (win0 a 2).index t 0 = 0 := by
  have h : ∀ t : Fin grid0.N, (win0 adm₀ 2).index t 0 = 0 := by decide +kernel
  exact h t

theorem index_1 (t : Fin grid0.N) : (win0 a 2).index t 1 = t.val := by
  have h : ∀ t : Fin grid0.N, (win0 adm₀ 2).index t 1 = t.val := by decide +kernel
  exact h t

theorem extent_0 (t : Fin grid0.N) : (win0 a 2).xsize (grid0.coords t) 0 = 64 := by
  have h : ∀ t : Fin grid0.N, (win0 adm₀ 2).xsize (grid0.coords t) 0 = 64 := by decide +kernel
  exact h t

theorem extent_1 (t : Fin grid0.N) : t.val * 32768 + (win0 a 2).xsize (grid0.coords t) 1 = min ((t.val + 1) * 32768) 1000000 := by
  have h : ∀ t : Fin grid0.N, t.val * 32768 + (win0 adm₀ 2).xsize (grid0.coords t) 1 = min ((t.val + 1) * 32768) 1000000 := by decide +kernel
  exact h t

/-- The data with each row's last update put in, rows along the second axis. -/
def merged (c : Dev nD) : S64x1000000.Idx → Elt F .f32 := fun y =>
  lastPut (fun b => tableRows (tbl a) b = (y 1).val) (fun b => upd (W c (Proc.devRef .tc main_v3)) b (y 0))
    (W c (Proc.devRef .tc main_v1) y) 16384

/-- The one block of the updates is all of them. -/
theorem tiles_eq (c : Dev nD) (t : Fin grid0.N) : tiles a W c t = W c (Proc.devRef .tc main_v3) := by
  funext y
  refine congrArg (W c (Proc.devRef .tc main_v3)) (ix3_ext ?_ ?_ ?_)
  · show 0 * 128 + 1 * (y 0).val = _; omega
  · show 0 * 64 + 1 * (y 1).val = _; omega
  · show 0 * 128 + 1 * (y 2).val = _; omega

/-- Where a block's element lies in the array. -/
def inArr (t : Fin grid0.N) (j : ((win0 a 2).xblock (grid0.coords t)).Idx) : S64x1000000.Idx :=
  ((win0 a 2).rect t).emb j

theorem inArr_0 (t : Fin grid0.N) (j : ((win0 a 2).xblock (grid0.coords t)).Idx) : (inArr a t j 0).val = (j 0).val := by
  have h : (inArr a t j 0).val = (win0 a 2).index t 0 * 64 + 1 * (j 0).val := rfl
  rw [h, index_0]
  omega

theorem inArr_1 (t : Fin grid0.N) (j : ((win0 a 2).xblock (grid0.coords t)).Idx) : (inArr a t j 1).val = t.val * 32768 + (j 1).val := by
  have h : (inArr a t j 1).val = (win0 a 2).index t 1 * 32768 + 1 * (j 1).val := rfl
  rw [h, index_1]
  omega

theorem flushed_eq (c : Dev nD) (t : Fin grid0.N) :
    (dats a W c).flushed (2 : Fin 3) t = ((win0 a 2).blk t).view.read (Elt F) (merged a W c) := by
  funext j
  show xout a W c t ((win0 a 2).xinj (grid0.coords t) j) = merged a W c (inArr a t j)
  unfold xout putIn merged
  rw [tiles_eq, inArr_1]
  refine congr (congr (congrArg (fun v => lastPut _ v) ?_) ?_) rfl
  · funext b
    exact congrArg (upd _ b) (Fin.ext (inArr_0 a t j).symm)
  · exact (win0 a 0).fill_xinj (grid0.coords t) _ (xblk a W c t) j

theorem covered (y : S64x1000000.Idx) : ∃ t : Fin grid0.N, (win0 a 2).flush t = true ∧ y ∈ ((win0 a 2).blk t).view.set := by
  have h0 : (y 0).val < 64 := (y 0).isLt
  have h1 : (y 1).val < 1000000 := (y 1).isLt
  refine ⟨⟨(y 1).val / 32768, by rw [N_0]; omega⟩, flush_2 a _, ?_⟩
  rw [View.set_slice_whole, Rect.mem_set_unit]
  intro x
  match x with
  | 0 =>
    show (win0 a 2).index _ 0 * 64 ≤ (y 0).val ∧ (y 0).val < (win0 a 2).index _ 0 * 64 + (win0 a 2).xsize _ 0
    rw [index_0, extent_0]
    omega
  | 1 =>
    show (win0 a 2).index _ 1 * 32768 ≤ (y 1).val ∧ (y 1).val < (win0 a 2).index _ 1 * 32768 + (win0 a 2).xsize _ 1
    rw [index_1, extent_1]
    show (y 1).val / 32768 * 32768 ≤ (y 1).val ∧ (y 1).val < min (((y 1).val / 32768 + 1) * 32768) 1000000
    omega

/-- The output array after the region. -/
theorem arr_out (c : Dev nD) : (dats a W c).arrAt (2 : Fin 3) grid0.N = merged a W c :=
  (dats a W c).arrAt_eq_of_cover (2 : Fin 3) (merged a W c) (fun t _ => flushed_eq a W c t) (covered a)

end Cert.KernelIdeal.Merge

end
-- ==== Proof.Ideal.Ends.lean ====
/-
  THE REGION'S TWO ENDS: what the core holds of the scratch memories and the table when the region is entered is what the
  first point starts from (`ends_in`), and the last point leaves what the core gets back (`ends_out`).
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Region
public import Idealize.ShloMosaic.Lib.Pipeline.RegionArraysTS

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter
open Idealize.ShloMosaic.Pipeline (Dat)
open Idealize.ShloMosaic.Rounds

/-- A whole buffer, seen as a memory reference. -/
theorem pt_whole (c : Dev nD) (b : Ref sig .tc) (f : b.ty.Contents (Elt F)) :
    (pt c (Memref.whole b) f : sProp 𝕄) = (((c : Thread nD τ).loc b) ↦{fullShare} f) := by
  unfold pt
  rw [View.set_whole]

theorem ex_whole (c : Dev nD) (b : Ref sig .tc) :
    (iprop(∃ f : Buf (Elt F) ((c : Thread nD τ).loc b), ((c : Thread nD τ).loc b) ↦{fullShare} f) : sProp 𝕄)
      = iprop(∃ f : b.ty.Contents (Elt F), pt c (Memref.whole b) f) :=
  congrArg _ (funext fun f => (pt_whole c b f).symm)

/-- Six memories at some contents each and a table, parted as the region's invariant has them. -/
theorem part_in {P : Type} [URA P] {α0 α1 α2 α3 α4 α5 : Type} (A0 : α0 → sProp P) (A1 : α1 → sProp P) (A2 : α2 → sProp P) (A3 : α3 → sProp P)
    (A4 : α4 → sProp P) (A5 : α5 → sProp P) (T : sProp P) :
    iprop(((∃ f, A0 f) ∗ (∃ f, A1 f) ∗ (∃ f, A2 f) ∗ (∃ f, A3 f) ∗ (∃ f, A4 f) ∗ (∃ f, A5 f)) ∗ T)
      ⊢ iprop((T ∗ ∃ f1 f2 f3 f4 f5, A1 f1 ∗ A2 f2 ∗ A3 f3 ∗ A4 f4 ∗ A5 f5) ∗ ∃ f0, A0 f0) := by
  iintro ⟨⟨⟨%f0, H0⟩, ⟨%f1, H1⟩, ⟨%f2, H2⟩, ⟨%f3, H3⟩, ⟨%f4, H4⟩, ⟨%f5, H5⟩⟩, HT⟩
  isplitr [H0]
  · isplitl [HT]; · iexact HT
    iexists f1, f2, f3, f4, f5
    isplitl [H1]; · iexact H1
    isplitl [H2]; · iexact H2
    isplitl [H3]; · iexact H3
    isplitl [H4]; · iexact H4
    iexact H5
  iexists f0
  iexact H0

/-- And parted back, whatever else is known of their contents. -/
theorem part_out {P : Type} [URA P] {α0 α1 α2 α3 α4 α5 : Type} (A0 : α0 → sProp P) (A1 : α1 → sProp P) (A2 : α2 → sProp P) (A3 : α3 → sProp P)
    (A4 : α4 → sProp P) (A5 : α5 → sProp P) (T : sProp P) (K : α1 → α2 → α3 → α4 → α5 → Prop) :
    iprop((T ∗ ∃ f1 f2 f3 f4 f5, A1 f1 ∗ A2 f2 ∗ A3 f3 ∗ A4 f4 ∗ A5 f5 ∗ ⌜K f1 f2 f3 f4 f5⌝) ∗ ∃ f0, A0 f0)
      ⊢ iprop(((∃ f, A0 f) ∗ (∃ f, A1 f) ∗ (∃ f, A2 f) ∗ (∃ f, A3 f) ∗ (∃ f, A4 f) ∗ (∃ f, A5 f)) ∗ T) := by
  iintro ⟨⟨HT, ⟨%f1, %f2, %f3, %f4, %f5, H1, H2, H3, H4, H5, -⟩⟩, ⟨%f0, H0⟩⟩
  isplitr [HT]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact HT

/-- The scratch memories, each whole at some contents. -/
theorem scratch_eq (c : Dev nD) :
    (Pipeline.scopedRest (Ix := Unit) (Name := ℕ) (U := UR sig nD τ) (Lvl := ℕ) (Val := Elt F) spec0 c : sProp 𝕄)
      = iprop((∃ f, pt c (Memref.whole cc0_scratch0) f) ∗ (∃ f, pt c (Memref.whole cc0_scratch1) f) ∗ (∃ f, pt c (Memref.whole cc0_scratch2) f)
        ∗ (∃ f, pt c (Memref.whole cc0_scratch3) f) ∗ (∃ f, pt c (Memref.whole cc0_scratch4) f) ∗ (∃ f, pt c (Memref.whole cc0_scratch5) f)) := by
  refine (scopedRest0_eq c).trans ?_
  exact congrArg₂ BI.sep (ex_whole c _) (congrArg₂ BI.sep (ex_whole c _) (congrArg₂ BI.sep (ex_whole c _)
    (congrArg₂ BI.sep (ex_whole c _) (congrArg₂ BI.sep (ex_whole c _) (ex_whole c _)))))

/-- The scratch memories and the table are what the first point starts from. -/
theorem scratch_in (c : Dev nD) (T : main_v0.ty.Contents (Elt F)) :
    iprop(Pipeline.scopedRest (Ix := Unit) (Name := ℕ) (U := UR sig nD τ) (Lvl := ℕ) (Val := Elt F) spec0 c ∗ pt c (Memref.whole main_v0) T)
      ⊢ (Φ₀ c T : sProp 𝕄) := by
  rw [scratch_eq c]
  exact part_in (fun f => pt c (Memref.whole cc0_scratch0) f) (fun f => pt c (Memref.whole cc0_scratch1) f) (fun f => pt c (Memref.whole cc0_scratch2) f)
    (fun f => pt c (Memref.whole cc0_scratch3) f) (fun f => pt c (Memref.whole cc0_scratch4) f) (fun f => pt c (Memref.whole cc0_scratch5) f)
    (pt c (Memref.whole main_v0) T)

/-- The last point gives them back. -/
theorem scratch_out (c : Dev nD) (T : main_v0.ty.Contents (Elt F)) :
    (Φ₁ c T : sProp 𝕄)
      ⊢ iprop(Pipeline.scopedRest (Ix := Unit) (Name := ℕ) (U := UR sig nD τ) (Lvl := ℕ) (Val := Elt F) spec0 c ∗ pt c (Memref.whole main_v0) T) := by
  rw [scratch_eq c]
  exact part_out (fun f => pt c (Memref.whole cc0_scratch0) f) (fun f => pt c (Memref.whole cc0_scratch1) f) (fun f => pt c (Memref.whole cc0_scratch2) f)
    (fun f => pt c (Memref.whole cc0_scratch3) f) (fun f => pt c (Memref.whole cc0_scratch4) f) (fun f => pt c (Memref.whole cc0_scratch5) f)
    (pt c (Memref.whole main_v0) T) _

/-- The one table, held. -/
theorem table_held (a : ∀ p, ((pcfgs (F := F)) p).Adm) (c : Dev nD) :
    (Pipeline.tablesAt (pcfgs (F := F)) a 0 c : sProp 𝕄) = pt c (Memref.whole main_v0) (tbl (a 0)) := by
  rw [pt_whole]
  unfold Pipeline.tablesAt Pipeline.prefHeld
  exact (congrArg (fun S => bigSep S _) (show (Finset.univ : Finset (Fin pre0.K)) = {0} from rfl)).trans (bigSep_singleton)

theorem phi_zero (a : (pcfg0 (F := F)).Adm) (W : Dev nD → Valuation τ sig (Elt F)) (c : Dev nD) :
    ((dats a W c).Φ 0 : sProp 𝕄) = Φ₀ c (tbl a) := by
  dsimp only [dats]
  exact if_pos rfl

theorem phi_last (a : (pcfg0 (F := F)).Adm) (W : Dev nD → Valuation τ sig (Elt F)) (c : Dev nD) :
    ((dats a W c).Φ (Fin.last grid0.N) : sProp 𝕄) = Φ₁ c (tbl a) := by
  dsimp only [dats]
  exact if_neg (show ¬ grid0.N = 0 by rw [N_0]; decide)

theorem ends_in (a : ∀ p, ((pcfgs (F := F)) p).Adm) (W : Dev nD → Valuation τ sig (Elt F)) (c : Dev nD) :
    iprop(iprop(Pipeline.scopedRest (Ix := Unit) (Name := ℕ) (U := UR sig nD τ) (Lvl := ℕ) (Val := Elt F) spec0 c ∗ emp)
        ∗ Pipeline.tablesAt (pcfgs (F := F)) a 0 c) ⊢ ((dats (a 0) W c).Φ 0 : sProp 𝕄) := by
  rw [phi_zero (a 0) W c, table_held]
  iintro ⟨⟨Hs, -⟩, HT⟩
  iapply (scratch_in c (tbl (a 0)))
  isplitl [Hs]; · iexact Hs
  iexact HT

theorem ends_out (a : ∀ p, ((pcfgs (F := F)) p).Adm) (W : Dev nD → Valuation τ sig (Elt F)) (c : Dev nD) :
    ((dats (a 0) W c).Φ (Fin.last grid0.N) : sProp 𝕄)
      ⊢ iprop(iprop(Pipeline.scopedRest (Ix := Unit) (Name := ℕ) (U := UR sig nD τ) (Lvl := ℕ) (Val := Elt F) spec0 c ∗ emp)
        ∗ Pipeline.tablesAt (pcfgs (F := F)) a 0 c) := by
  rw [phi_last (a 0) W c, table_held]
  iintro H
  ihave H' := (scratch_out c (tbl (a 0))) $$ H
  icases H' with ⟨Hs, HT⟩
  isplitl [Hs]
  · isplitl [Hs]; · iexact Hs
    iempintro
  iexact HT

end Cert.KernelIdeal.Merge

end
-- ==== Proof.Ideal.Run.lean ====
/-
  THE WHOLE PROGRAM: the host's reshapes and transposes, the region, the last transpose.

  Run from any memory whose rows are in range, it ends with the arguments as they were, the counters at zero and the result
  at what the host's last transpose makes of the region's output (`run_main`).
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Value
public import proofs.«01_k».proof.Proof.Ideal.Ends
public import Idealize.ShloMosaic.Lib.Pipeline.RegionArraysTS

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter
open Idealize.ShloMosaic.Pipeline (Dat BodyObligationLoose)
open Idealize.ShloMosaic.Rounds

/-- The rounds library's algebra is the whole of the proof's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- A core's buffers at the start, -/
abbrev V₀ (c : Dev nD) : Valuation τ sig (Elt F) := fun b => (s₀ m ρ).mem ((c : Dev nD), b)
/-- when the region is entered, -/
def V₁ (c : Dev nD) : Valuation τ sig (Elt F) := StableHlo.after hostOps0 (V₀ m ρ c)

/-- The table the region is entered with. -/
def adm (_ : Fin 1) : (pcfg0 (F := F)).Adm := ⟨fun k => V₁ m ρ 0 (Proc.devRef .tc (pre0.ref k)), trivial⟩

/-- The region's proof data. -/
def pdats (p : Fin 1) (c : Dev nD) : Dat τ (Elt F) Unit ℕ (UR sig nD τ) ℕ (Pipeline.pin (pcfgs (F := F)) (adm m ρ) p) c :=
  dats (adm m ρ p) (V₁ m ρ) c

/-- when it is left, -/
def V₂ (c : Dev nD) : Valuation τ sig (Elt F) := Pipeline.afterRegion (pdats m ρ 0 c) (V₁ m ρ c)
/-- and at the end. -/
def V₃ (c : Dev nD) : Valuation τ sig (Elt F) := StableHlo.after hostOps1 (V₂ m ρ c)

/-- No operation before the region writes an argument, -/
theorem not_written₀ (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- and the one after it neither. -/
theorem not_written₁ (b : Ref sig .tc) (hb : b ≠ main_v5) : ∀ op ∈ (hostOps1 (F := F)), Proc.devRef .tc b ∉ op.writes := by
  intro op hop
  simp only [List.mem_cons, List.mem_nil_iff, or_false] at hop
  rcases hop with rfl
  simp only [StableHlo.unary_writes, Finset.mem_singleton]
  exact StableHlo.devRef_ne_of_ne ‹_›

/-- A buffer no operation writes and no window is of ends as it was at the start. -/
theorem V₃_kept (c : Dev nD) (b : Ref sig .tc) (h0 : b ≠ main_v0 ∧ b ≠ main_v1 ∧ b ≠ main_v2 ∧ b ≠ main_v3) (h5 : b ≠ main_v5)
    (hw : ∀ w, b ≠ Pipeline.arrRef spec0 w) : V₃ m ρ c (Proc.devRef .tc b) = m ((c : Thread nD τ).loc b) :=
  ((StableHlo.after_of_forall_not_mem (b := Proc.devRef .tc b) hostOps1 (V₂ m ρ c) (not_written₁ b h5)).trans
    (Pipeline.afterRegion_of_not_arr (pdats m ρ 0 c) (V₁ m ρ c) hw)).trans
    (StableHlo.after_of_forall_not_mem (b := Proc.devRef .tc b) hostOps0 (V₀ m ρ c) (not_written₀ b h0))

/-- The unscoped buffers, within which the program runs. -/
abbrev unscoped : Finset (DevRef τ sig) := Pipeline.ucRefs τ sig

theorem unscopedBufs_held (c : Dev nD) (W : Valuation τ sig (Elt F)) :
    (unscopedBufs c (fun b => W b) : sProp 𝕄) = StableHlo.held (c : Thread nD τ) unscoped W := by
  unfold unscopedBufs StableHlo.held unscoped Pipeline.ucRefs StableHlo.tcRefs
  rw [Finset.filter_map, bigSep_map]
  rfl

theorem sub_unscoped (op : HloOp τ sig (Elt F)) (h : op.bufs ⊆ StableHlo.tcRefs τ sig) : op.bufs ⊆ unscoped := fun b hb =>
  Finset.mem_filter.mpr ⟨h hb, fun h' => Bool.false_ne_true ((op.no_scoped b hb).symm.trans h')⟩

/-- No core owes another anything. -/
def L (g : GSem nD τ sig) : Finset Unit := if g.1.2 = .tc then {()} else ∅
abbrev lv : GSem nD τ sig → Unit → ℕ := fun _ _ => 0
abbrev R (c : Dev nD) : sProp 𝕄 := iprop(∃ W, owes (c : Thread nD τ) (0 : CellTallies nD τ sig Unit) W)

/-- The operations before the region, -/
def seg0 : Pipeline.HostSeg (Name := ℕ) (U := UR sig nD τ) (pcfgs (F := F)) defs₀ 𝒱₀ L lv :=
  Pipeline.HostSeg.ofOps _ _ _ _ _ unscoped hostOps0 (fun op h => sub_unscoped op ((List.forall_iff_forall_mem.mp hostOps0_sub) op h))
    (by intro _ h; (repeat (cases h with | head => rfl | tail _ h => ?_)); exact nomatch h) (V₀ m ρ) R

/-- and the one after it. -/
def seg1 : Pipeline.HostSeg (Name := ℕ) (U := UR sig nD τ) (pcfgs (F := F)) defs₀ 𝒱₀ L lv :=
  Pipeline.HostSeg.ofOps _ _ _ _ _ unscoped hostOps1 (fun op h => sub_unscoped op ((List.forall_iff_forall_mem.mp hostOps1_sub) op h))
    (by intro _ h; (repeat (cases h with | head => rfl | tail _ h => ?_)); exact nomatch h) (V₂ m ρ) R

theorem levelCut : Pipeline.LevelCut (pcfgs (F := F)) (adm m ρ) () L lv 0 (fun _ => 0) (fun _ => 0) where
  hι c w s := by
    unfold L
    rw [if_pos rfl]
    exact Finset.mem_singleton_self _
  hιb _ _ _ := le_rfl
  hD c g i h := absurd h (lt_irrefl 0)

/-- The region. -/
def reg0 (hw : ∀ b, tableRows (tbl (adm m ρ 0)) b < 1000000) :
    Pipeline.RegionSeg (pcfgs (F := F)) (adm m ρ) (pdats m ρ) () defs₀ 𝒱₀ L lv 0 :=
  Pipeline.RegionSeg.ofHeldInT (pcfgs (F := F)) (adm m ρ) (pdats m ρ) () defs₀ 𝒱₀ L lv 0 (fun _ => 0) unscoped
    (fun _ => iprop(emp)) (fun _ => iprop(emp)) launch0 (fun c => body_obligation (adm m ρ 0) (V₁ m ρ) hw c)
    (fun _ _ => rfl) (fun _ => rfl) (fun c w => (pdats m ρ 0 c).share_full (fun _ => rfl) w) (fun c => ends_in (adm m ρ) (V₁ m ρ) c)
    (fun c => ends_out (adm m ρ) (V₁ m ρ) c)
    (fun _ => 0) (levelCut m ρ) (fun _ => iprop(emp)) (V₁ m ρ) (fun _ _ => rfl)
    (fun c k => by obtain rfl : c = 0 := Subsingleton.elim _ _; rfl)

/-- The program as its host lines and its region. -/
abbrev segs (hw : ∀ b, tableRows (tbl (adm m ρ 0)) b < 1000000) :
    List (Pipeline.Seg (pcfgs (F := F)) (adm m ρ) (pdats m ρ) () defs₀ 𝒱₀ L lv) :=
  [.host (seg0 m ρ), .region (reg0 m ρ hw), .host (seg1 m ρ)]

/-- A buffer held reads as the valuation says. -/
theorem held_read (c : Dev nD) (W : Valuation τ sig (Elt F)) (b : Ref sig .tc) (hb : Proc.devRef .tc b ∈ unscoped) (s' : Phys nD τ sig (Elt F)) :
    iprop(StableHlo.held (c : Thread nD τ) unscoped W ∗ SI s')
      ⊢ (iprop(⌜s'.mem.mem ((c : Thread nD τ).loc b) = W (Proc.devRef .tc b)⌝ ∗ StableHlo.held (c : Thread nD τ) unscoped W ∗ SI s') : sProp 𝕄) := by
  rw [StableHlo.held_sub_split (c : Thread nD τ) (Finset.singleton_subset_iff.mpr hb) W]
  rw [show (StableHlo.held (c : Thread nD τ) {Proc.devRef .tc b} W : sProp 𝕄) = (((c : Thread nD τ).loc b) ↦{fullShare} W (Proc.devRef .tc b)) from
    bigSep_singleton]
  iintro ⟨⟨H1, HR⟩, HSI⟩
  icombine HSI H1 gives %h
  isplitr; · ipureintro; exact Buf.eq_of_forall_mem_univ h
  isplitr [HSI]
  · isplitl [H1] <;> iassumption
  iexact HSI

/-- What the launch starts from. -/
def u₀ : UR sig nD τ := initOf (Pipeline.cells (Pipeline.pin (pcfgs (F := F)) (adm m ρ)) (cellOf_inj (adm m ρ)))
  (Pipeline.launchToks (Pipeline.pin (pcfgs (F := F)) (adm m ρ)) (cellOf_inj (adm m ρ)))

/-- What a core's memory is at the end. -/
def Ends (c : Dev nD) (s : MemSt nD τ sig (Elt F)) : Prop :=
  s.mem ((c : Thread nD τ).loc main_v5) = V₃ m ρ c (Proc.devRef .tc main_v5)
    ∧ s.mem ((c : Thread nD τ).loc main_arg0) = V₃ m ρ c (Proc.devRef .tc main_arg0)
    ∧ s.mem ((c : Thread nD τ).loc main_arg1) = V₃ m ρ c (Proc.devRef .tc main_arg1)
    ∧ s.mem ((c : Thread nD τ).loc main_arg2) = V₃ m ρ c (Proc.devRef .tc main_arg2)

theorem ends_read (c : Dev nD) (s' : Phys nD τ sig (Elt F)) :
    iprop(StableHlo.held (c : Thread nD τ) unscoped (V₃ m ρ c) ∗ SI s') ⊢ (iprop(⌜Ends m ρ c s'.mem⌝ ∗ SI s') : sProp 𝕄) := by
  iintro H
  ihave H := (held_read c (V₃ m ρ c) main_v5 (by decide) s') $$ H
  icases H with ⟨%h5, H⟩
  ihave H := (held_read c (V₃ m ρ c) main_arg0 (by decide) s') $$ H
  icases H with ⟨%h0, H⟩
  ihave H := (held_read c (V₃ m ρ c) main_arg1 (by decide) s') $$ H
  icases H with ⟨%h1, H⟩
  ihave H := (held_read c (V₃ m ρ c) main_arg2 (by decide) s') $$ H
  icases H with ⟨%h2, -, H⟩
  isplitr; · ipureintro; exact ⟨h5, h0, h1, h2⟩
  iexact H

/-- The region is entered from what the operations before it leave, -/
theorem link_in (hw : ∀ b, tableRows (tbl (adm m ρ 0)) b < 1000000) (c : Dev nD) :
    iprop(StableHlo.held (c : Thread nD τ) unscoped (V₁ m ρ c) ∗ R c) ⊢ ((reg0 m ρ hw).pre c : sProp 𝕄) := by
  refine BIBase.Entails.trans ?_ (Pipeline.RegionSeg.ofHeldInT_pre (Pipeline.arrRefs_sub_ucRefs _ launch0.win.arr_unscoped)
    (Pipeline.tblRefs_sub_ucRefs _ launch0.pre.unscoped) c)
  iintro ⟨Hh, HO⟩
  isplitl [Hh]; · iexact Hh
  isplitl [HO]; · iexact HO
  isplitr <;> iempintro

/-- and left to the one after it. -/
theorem link_out (hw : ∀ b, tableRows (tbl (adm m ρ 0)) b < 1000000) (c : Dev nD) :
    ((reg0 m ρ hw).post c : sProp 𝕄) ⊢ iprop(StableHlo.held (c : Thread nD τ) unscoped (V₂ m ρ c) ∗ R c) := by
  refine BIBase.Entails.trans (Pipeline.RegionSeg.ofHeldInT_post (Pipeline.arrRefs_sub_ucRefs _ launch0.win.arr_unscoped)
    (Pipeline.tblRefs_sub_ucRefs _ launch0.pre.unscoped) c) ?_
  iintro ⟨Hh, HO, -, -⟩
  isplitl [Hh]; · iexact Hh
  iexact HO

set_option backward.isDefEq.respectTransparency.types false in
/-- The run. -/
theorem run_main (hw : ∀ b, tableRows (tbl (adm m ρ 0)) b < 1000000) :
    θ_run defs (onTc (τ := τ) (main (F := F))) (s₀ m ρ) (fun r => (∀ c, Ends m ρ c r.2) ∧ r.2.sem = fun _ => 0) :=
  Pipeline.θ_run_regions_kit_sems (pcfgs (F := F)) (adm m ρ) (pdats m ρ) () (cellOf_inj (adm m ρ)) EP defs₀ 𝒱₀ L lv m ρ main (segs m ρ hw)
    (fun c Q => by rw [main_segs (adm m ρ) (pdats m ρ) () 𝒱₀ L lv (seg0 m ρ) (seg1 m ρ) (reg0 m ρ hw) rfl rfl c])
    (by simp only [Pipeline.Seg.pipes_host, Pipeline.Seg.pipes_region, Pipeline.Seg.pipes_nil]; decide) (O₀ := 0)
    (hL := fun _ h => if_neg h) (G := fun _ => iprop(emp)) (u₀ := u₀ m ρ)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) unscoped (V₀ m ρ c) ∗ R c))
    (Tₙ := fun c => StableHlo.held (c : Thread nD τ) unscoped (V₃ m ρ c))
    (hch := ⟨fun _ => .rfl, link_in m ρ hw, link_out m ρ hw, fun _ => .rfl⟩)
    (hinit := by
      refine Pipeline.initEach L lv fun c => ?_
      rw [show unscopedBufs c (fun b => m ((c : Thread nD τ).loc b)) = StableHlo.held (c : Thread nD τ) unscoped (V₀ m ρ c) from unscopedBufs_held c (V₀ m ρ c)]
      iintro ⟨⟨Hh, -, HO, -, -, -⟩, -⟩
      imodintro
      isplitl [Hh]; · iexact Hh
      iexists ∅; iexact HO)
    (QY := Ends m ρ)
    (hfin := fun c s' => by
      iintro ⟨H, HSI⟩
      imodintro
      iapply (ends_read m ρ c s')
      isplitl [H] <;> iassumption)
    (hQ := fun _ h hz => ⟨h, funext fun g => hz g (.inr (by revert g; decide))⟩)

end Cert.KernelIdeal.Merge

end
-- ==== Proof.Ideal.Result.lean ====
/-
  THE RESULT: whatever the float type, the program ends with the data in which each row holds the values of the last update
  that goes to it (`Result`), and with its arguments as they were (`run_result`).
-/
module

public import proofs.«01_k».proof.Proof.Gen.KernelIdeal.Loops
public import proofs.«01_k».proof.Proof.Gen.KernelIdeal.Launch
public import Idealize.ShloMosaic.Lib.LoopRemainder
public import proofs.«01_k».proof.Proof.Ideal.Run
public import proofs.«01_k».proof.Proof.HostOps
public import Idealize.ShloMosaic.Lib.Pipeline.RegionArraysTS

@[expose] public section

set_option maxRecDepth 16384

noncomputable section

namespace Cert.KernelIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.Scatter
open Idealize.ShloMosaic.Pipeline (Dat BodyObligationLoose)
open Idealize.ShloMosaic.Rounds

variable (m : (ℓ : Loc nD τ sig) → Buf (Elt F) ℓ) (ρ : Dev nD → PrngReg)

/-- The table is the index words flattened, -/
theorem V₁_table (c : Dev nD) :
    V₁ m ρ c (Proc.devRef .tc main_v0) = shapeCast S16384 (m ((c : Thread nD τ).loc main_arg1)) shapeCasts_S16384x1_S16384 := by
  unfold V₁
  after_results <;> rfl

/-- the first array is the data on its side, -/
theorem V₁_data (c : Dev nD) :
    V₁ m ρ c (Proc.devRef .tc main_v1) = transpose S64x1000000 [1, 0] (m ((c : Thread nD τ).loc main_arg0)) transposes_S1000000x64_S64x1000000_1_0 := by
  unfold V₁
  after_results <;> rfl

/-- the second the updates in tiles, -/
theorem V₁_updates (c : Dev nD) :
    V₁ m ρ c (Proc.devRef .tc main_v3) = transpose S128x64x128 [0, 2, 1] (shapeCast S128x128x64 (m ((c : Thread nD τ).loc main_arg2)) shapeCasts_S16384x64_S128x128x64)
      transposes_S128x128x64_S128x64x128_0_2_1 := by
  unfold V₁
  after_results <;> rfl

/-- and the result is the third turned back. -/
theorem V₃_result (c : Dev nD) :
    V₃ m ρ c (Proc.devRef .tc main_v5) = transpose S1000000x64 [1, 0] (V₂ m ρ c (Proc.devRef .tc main_v4)) transposes_S64x1000000_S1000000x64_1_0 := by
  unfold V₃
  after_results <;> rfl

theorem V₂_out (c : Dev nD) : V₂ m ρ c (Proc.devRef .tc main_v4) = merged (adm m ρ 0) (V₁ m ρ) c :=
  (Pipeline.afterRegion_arr (pdats m ρ 0 c) (V₁ m ρ c) (launch0 (F := F)).win.arr_inj (2 : Fin 3)).trans (arr_out (adm m ρ 0) (V₁ m ρ) c)

/-- The rows the kernel reads are those the updates go to. -/
theorem table_rows (b : ℕ) : tableRows (tbl (adm m ρ 0)) b = rowOf (m (((0 : Dev nD) : Thread nD τ).loc main_arg1)) b :=
  (congrArg (fun x => at1 (n := 16384) x b) (V₁_table m ρ 0)).trans (flat_row _ _ b)

/-- The data with each row's last update put in. -/
def Result (c : Dev nD) : S1000000x64.Idx → Elt F .f32 :=
  scattered (m ((c : Thread nD τ).loc main_arg0)) (m ((c : Thread nD τ).loc main_arg1)) (m ((c : Thread nD τ).loc main_arg2))

theorem result (c : Dev nD) : V₃ m ρ c (Proc.devRef .tc main_v5) = Result m c := by
  obtain rfl : c = 0 := Subsingleton.elim _ _
  rw [V₃_result, V₂_out]
  funext y
  refine (turned _ _ y).trans ?_
  unfold merged Result scattered
  refine lastPut_congr (fun b _ => ?_) (fun b _ _ => ?_) ?_
  · rw [table_rows]
    exact Iff.rfl
  · exact (congrArg (fun U => upd U b (y 1)) (V₁_updates m ρ 0)).trans (tiles_given _ _ _ b (y 1))
  · exact (congrFun (V₁_data m ρ 0) _).trans (turned_in _ _ y)

/-- Rows in range keep the kernel's reads and writes inside its memories. -/
theorem rows_in_range (h : ∀ b, rowOf (m (((0 : Dev nD) : Thread nD τ).loc main_arg1)) b < 1000000) (b : ℕ) :
    tableRows (tbl (adm m ρ 0)) b < 1000000 := by
  rw [table_rows]
  exact h b

/-- The run, its result read. -/
theorem run_result (h : ∀ b, rowOf (m (((0 : Dev nD) : Thread nD τ).loc main_arg1)) b < 1000000) :
    θ_run defs (onTc (τ := τ) (main (F := F))) ⟨m, fun _ => 0, ρ⟩ (fun r => (∀ c : Dev nD,
      r.2.mem ((c : Thread nD τ).loc main_v5) = Result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ hr => ⟨fun c =>
      ⟨(hr.1 c).1.trans (result m ρ c),
        (hr.1 c).2.1.trans (V₃_kept m ρ c main_arg0 (by decide) (by decide) (by decide)),
        (hr.1 c).2.2.1.trans (V₃_kept m ρ c main_arg1 (by decide) (by decide) (by decide)),
        (hr.1 c).2.2.2.trans (V₃_kept m ρ c main_arg2 (by decide) (by decide) (by decide))⟩, hr.2⟩)
    (run_main m ρ (rows_in_range m ρ h))

end Cert.KernelIdeal.Merge

end
-- ==== Proof.Same.lean ====
/- The kernel's printed text and the text of its idealization name the same program, at any float values: what is proved of
   one is proved of the other. -/
module

public import proofs.«01_k».proof.Proof.Gen.Kernel
public import proofs.«01_k».proof.Proof.Ideal.Result

@[expose] public section

set_option maxRecDepth 100000
set_option maxHeartbeats 1000000

noncomputable section

namespace Cert.Kernel.Same

open Cert.Kernel Cert.Kernel.Gen
open Idealize.ShloMosaic Idealize.ShloMosaic.TcCoe Idealize.SL.Sem

variable {F : FTy → Type} [FloatOps F]

/-- The two kernel bodies agree at every grid point. -/
theorem bodies : ∀ (ℓ : Λ₀.Label) (a : Λ₀.Args ℓ), defs₀ (F := F) .tc ℓ a = Cert.KernelIdeal.defs₀ (F := F) .tc ℓ a
  | 0, (_, _) => rfl
  | ⟨_ + 1, h⟩, _ => absurd h (Nat.not_lt.2 (Nat.le_add_left _ _))

/-- So do the bodies with the launch's pipeline put round them. -/
theorem defs_eq : defs (F := F) = Cert.KernelIdeal.defs (F := F) :=
  congrArg (Pipeline.defs (pcfgs (F := F)))
    (congrArg Defs.onTc (funext fun ℓ => funext fun a => bodies (F := F) ℓ a))

/-- And the host programs. -/
theorem main_eq : main (F := F) = Cert.KernelIdeal.main (F := F) := rfl

/-- Every run of the kernel ends with the arguments unchanged and every counter at zero. -/
theorem run_frame (m : (ℓ : Loc nD τ sig) → Buf (Elt F) ℓ) (ρ : Dev nD → PrngReg)
    (h : ∀ b, Cert.Scatter.rowOf (m (((0 : Dev nD) : Thread nD τ).loc main_arg1)) b < 1000000) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  rw [defs_eq, main_eq]
  exact (θ_run (Cert.KernelIdeal.defs (F := F)) _ _).mono (fun r hr => ⟨fun c => (hr.1 c).2, hr.2⟩)
    (Cert.KernelIdeal.Merge.run_result (F := F) m ρ h)

end Cert.Kernel.Same

end
-- ==== Proof.lean ====
/- The proof of the claims: the three frames, that the idealization rewrote nothing, and that the kernel and the plain scatter
   end with the same result. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.InRange
public import proofs.«01_k».proof.Proof.Reference
public import proofs.«01_k».proof.Proof.Ideal.Result
public import proofs.«01_k».proof.Proof.Same

@[expose] public section

noncomputable section

namespace Cert.Proof

open Idealize.ShloMosaic Idealize.ShloMosaic.TcCoe Idealize.SL.Sem

/-- The kernel's frame. -/
theorem frame_kernel : quiescent_Kernel := fun m g h =>
  Cert.Kernel.Same.run_frame m g (Cert.Scatter.rows_in_range _ _ _ (h 0))

/-- The idealized kernel's frame. -/
theorem frame_ideal : quiescent_KernelIdeal := fun m g h =>
  (θ_run _ _ _).mono (fun _ hr => ⟨fun c => (hr.1 c).2, hr.2⟩)
    (Cert.KernelIdeal.Merge.run_result (F := Ideal) m g (Cert.Scatter.rows_in_range _ _ _ (h 0)))

/-- The kernel's result is the reference's. -/
theorem same_result : algebraic_KernelIdeal_ReferenceIdeal := fun m g m' g' h agree => by
  refine ⟨Cert.KernelIdeal.Merge.Result m,
    (θ_run _ _ _).mono (fun _ hr c => hr.1 c)
      (Cert.KernelIdeal.Merge.run_result (F := Ideal) m g (Cert.Scatter.rows_in_range _ _ _ (h 0))),
    (θ_run _ _ _).mono (fun _ hr c => ⟨(hr c).1.trans ?_, (hr c).2⟩)
      (Cert.ReferenceIdeal.Scatter.run_result (F := Ideal) m' g' fun c i => ?_)⟩
  · rw [(agree c).2.1]
    exact Nat.lt_trans (Cert.Scatter.words_in_range _ _ _ (h c) i) (by decide)
  · obtain ⟨h0, h1, h2⟩ := agree c
    rw [h0, h1, h2]
    rfl

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_ideal, fun m g _ => Cert.ReferenceIdeal.Scatter.run_frame m g,
    fun m g _ => Cert.ReferenceIdeal.Scatter.run_frame m g, trivial, same_result⟩

end Cert.Proof

end
